-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S3x8x1024x1024 : Shape := ⟨4, ![3, 8, 1024, 1024]⟩
abbrev S4x8x1024x1024 : Shape := ⟨4, ![4, 8, 1024, 1024]⟩
abbrev S8x1024x1024 : Shape := ⟨3, ![8, 1024, 1024]⟩
abbrev S1024x1024 : Shape := ⟨2, ![1024, 1024]⟩
abbrev S4x8x128 : Shape := ⟨3, ![4, 8, 128]⟩
abbrev S3x8 : Shape := ⟨2, ![3, 8]⟩
abbrev S3 : Shape := ⟨1, ![3]⟩
abbrev S_ : Shape := ⟨0, ![]⟩
abbrev S1x1024x1024 : Shape := ⟨3, ![1, 1024, 1024]⟩
abbrev S1x1 : Shape := ⟨2, ![1, 1]⟩
abbrev S1x1x1024x1024 : Shape := ⟨4, ![1, 1, 1024, 1024]⟩
abbrev S1 : Shape := ⟨1, ![1]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .bf16⟩
  | .hbm, ⟨3, _⟩ => ⟨S3x8x1024x1024, .bf16⟩
  | .hbm, ⟨4, _⟩ => ⟨S4x8x1024x1024, .fp8e4m3⟩
  | .local _ .vmem, ⟨0, _⟩ => ⟨S4096x1024, .bf16⟩
  | .local _ .vmem, ⟨1, _⟩ => ⟨S1024x8192, .bf16⟩
  | .local _ .vmem, ⟨2, _⟩ => ⟨S8x1024x1024, .bf16⟩
  | .local _ .vmem, ⟨3, _⟩ => ⟨S1024x1024, .bf16⟩
  | .local _ .vmem, ⟨4, _⟩ => ⟨S1024x1024, .fp8e4m3⟩
  | .local _ .vmem, ⟨5, _⟩ => ⟨S4x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  (ofTc nBuf bufTy 1 105 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v13 : BitVec 32 := Scalar.muli v2 c1024_i32
  let v14 : Index := Scalar.indexCast v13
  let c0 : Index := 0#32
  ![v14.toNat, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_22 : BitVec 32 := 1#32
  let v24 : BitVec 32 := Scalar.muli v7 c1_i32_22
  let v25 : BitVec 32 := Scalar.addi c0_i32_23 v24
  v25.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_41 : BitVec 32 := 1#32
  let v45 : BitVec 32 := Scalar.muli v5 c1_i32_41
  let v46 : BitVec 32 := Scalar.addi c0_i32_42 v45
  v46.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_60 : BitVec 32 := 1#32
  let v66 : BitVec 32 := Scalar.muli v7 c1_i32_60
  let v67 : BitVec 32 := Scalar.addi c0_i32_61 v66
  v67.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_78 : BitVec 32 := 1#32
  let v87 : BitVec 32 := Scalar.muli v5 c1_i32_78
  let v88 : BitVec 32 := Scalar.addi c0_i32_79 v87
  v88.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_97 : BitVec 32 := 1#32
  let v108 : BitVec 32 := Scalar.muli v7 c1_i32_97
  let v109 : BitVec 32 := Scalar.addi c0_i32_98 v108
  v109.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_115 : BitVec 32 := 1#32
  let v129 : BitVec 32 := Scalar.muli v5 c1_i32_115
  let v130 : BitVec 32 := Scalar.addi c0_i32_116 v129
  v130.toNat
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_133 : BitVec 32 := 1#32
  let v150 : BitVec 32 := Scalar.muli v7 c1_i32_133
  let v151 : BitVec 32 := Scalar.addi c0_i32_134 v150
  v151.toNat
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_151 : BitVec 32 := 1#32
  let v171 : BitVec 32 := Scalar.muli v5 c1_i32_151
  let v172 : BitVec 32 := Scalar.addi c0_i32_152 v171
  v172.toNat
def k0_off2 (d0 : Dev nD) (c0_i32_158 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v181 : BitVec 32 := Scalar.addi v2 c8_i32
  let c1_i32_157 : BitVec 32 := 1#32
  let v182 : BitVec 32 := Scalar.subi v181 c1_i32_157
  let v183 : BitVec 32 := Scalar.subi v182 c0_i32_158
  let c4_i32_159 : BitVec 32 := 4#32
  let v184 : BitVec 32 := Scalar.remsi v183 c4_i32_159
  let c1024_i32_160 : BitVec 32 := 1024#32
  let v185 : BitVec 32 := Scalar.muli v184 c1024_i32_160
  let v186 : Index := Scalar.indexCast v185
  let c0_161 : Index := 0#32
  ![v186.toNat, 0]
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_210 : BitVec 32 := 1#32
  let v217 : BitVec 32 := Scalar.muli v7 c1_i32_210
  let v218 : BitVec 32 := Scalar.addi c0_i32_211 v217
  v218.toNat
def k0_off3 (d0 : Dev nD) (c0_i32_217 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_216 : BitVec 32 := 1#32
  let v227 : BitVec 32 := Scalar.addi v2 c1_i32_216
  let v228 : BitVec 32 := Scalar.addi v227 c0_i32_217
  let c4_i32_218 : BitVec 32 := 4#32
  let v229 : BitVec 32 := Scalar.remsi v228 c4_i32_218
  let c1024_i32_219 : BitVec 32 := 1024#32
  let v230 : BitVec 32 := Scalar.muli v229 c1024_i32_219
  let v231 : Index := Scalar.indexCast v230
  let c0_220 : Index := 0#32
  ![v231.toNat, 0]
def k0_dev12 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_269 : BitVec 32 := 1#32
  let v262 : BitVec 32 := Scalar.muli v5 c1_i32_269
  let v263 : BitVec 32 := Scalar.addi c0_i32_270 v262
  v263.toNat
def k0_dev13 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_329 : BitVec 32 := 1#32
  let v308 : BitVec 32 := Scalar.muli v7 c1_i32_329
  let v309 : BitVec 32 := Scalar.addi c0_i32_330 v308
  v309.toNat
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_388 : BitVec 32 := 1#32
  let v353 : BitVec 32 := Scalar.muli v5 c1_i32_388
  let v354 : BitVec 32 := Scalar.addi c0_i32_389 v353
  v354.toNat
def k0_dev15 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_448 : BitVec 32 := 1#32
  let v399 : BitVec 32 := Scalar.muli v7 c1_i32_448
  let v400 : BitVec 32 := Scalar.addi c0_i32_449 v399
  v400.toNat
def k0_dev16 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_507 : BitVec 32 := 1#32
  let v444 : BitVec 32 := Scalar.muli v5 c1_i32_507
  let v445 : BitVec 32 := Scalar.addi c0_i32_508 v444
  v445.toNat
def k0_dev17 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_567 : BitVec 32 := 1#32
  let v490 : BitVec 32 := Scalar.muli v7 c1_i32_567
  let v491 : BitVec 32 := Scalar.addi c0_i32_568 v490
  v491.toNat
def k0_dev18 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_626 : BitVec 32 := 1#32
  let v535 : BitVec 32 := Scalar.muli v5 c1_i32_626
  let v536 : BitVec 32 := Scalar.addi c0_i32_627 v535
  v536.toNat
def k0_dev19 (d0 : Dev nD) : Nat :=
  let c0_i32_687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_686 : BitVec 32 := 1#32
  let v581 : BitVec 32 := Scalar.muli v7 c1_i32_686
  let v582 : BitVec 32 := Scalar.addi c0_i32_687 v581
  v582.toNat
def k0_dev20 (d0 : Dev nD) : Nat :=
  let c0_i32_746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_745 : BitVec 32 := 1#32
  let v626 : BitVec 32 := Scalar.muli v5 c1_i32_745
  let v627 : BitVec 32 := Scalar.addi c0_i32_746 v626
  v627.toNat
def k0_dev21 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_805 : BitVec 32 := 1#32
  let v672 : BitVec 32 := Scalar.muli v7 c1_i32_805
  let v673 : BitVec 32 := Scalar.addi c0_i32_806 v672
  v673.toNat
def k0_dev22 (d0 : Dev nD) : Nat :=
  let c0_i32_865 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_864 : BitVec 32 := 1#32
  let v717 : BitVec 32 := Scalar.muli v5 c1_i32_864
  let v718 : BitVec 32 := Scalar.addi c0_i32_865 v717
  v718.toNat
def k0_dev23 (d0 : Dev nD) : Nat :=
  let c0_i32_925 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_924 : BitVec 32 := 1#32
  let v763 : BitVec 32 := Scalar.muli v7 c1_i32_924
  let v764 : BitVec 32 := Scalar.addi c0_i32_925 v763
  v764.toNat
def k0_dev24 (d0 : Dev nD) : Nat :=
  let c0_i32_984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_983 : BitVec 32 := 1#32
  let v808 : BitVec 32 := Scalar.muli v5 c1_i32_983
  let v809 : BitVec 32 := Scalar.addi c0_i32_984 v808
  v809.toNat
def k0_dev25 (d0 : Dev nD) : Nat :=
  let c0_i32_1044 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1043 : BitVec 32 := 1#32
  let v854 : BitVec 32 := Scalar.muli v7 c1_i32_1043
  let v855 : BitVec 32 := Scalar.addi c0_i32_1044 v854
  v855.toNat
def k0_dev26 (d0 : Dev nD) : Nat :=
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1102 : BitVec 32 := 1#32
  let v899 : BitVec 32 := Scalar.muli v5 c1_i32_1102
  let v900 : BitVec 32 := Scalar.addi c0_i32_1103 v899
  v900.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1250 : Index := Scalar.indexCast v2
  let c0_1497 : Index := 0#32
  let c0_1498 : Index := 0#32
  ![v1250.toNat, 0, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1505 : BitVec 32 := 0#32
  let c0_i32_1506 : BitVec 32 := 0#32
  ![v2.toNat, 0, 0]
def k0_dev27 (d0 : Dev nD) : Nat :=
  let c0_i32_1504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1499 : BitVec 32 := 1#32
  let v1254 : BitVec 32 := Scalar.addi v2 c1_i32_1499
  let c4_i32_1500 : BitVec 32 := 4#32
  let v1255 : BitVec 32 := Scalar.remsi v1254 c4_i32_1500
  let c1_i32_1503 : BitVec 32 := 1#32
  let v1256 : BitVec 32 := Scalar.muli v1255 c1_i32_1503
  let v1257 : BitVec 32 := Scalar.addi c0_i32_1504 v1256
  v1257.toNat
def k0_dev28 (d0 : Dev nD) : Nat :=
  let c0_i32_1514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1509 : BitVec 32 := 2#32
  let v1264 : BitVec 32 := Scalar.addi v2 c2_i32_1509
  let c4_i32_1510 : BitVec 32 := 4#32
  let v1265 : BitVec 32 := Scalar.remsi v1264 c4_i32_1510
  let c1_i32_1513 : BitVec 32 := 1#32
  let v1266 : BitVec 32 := Scalar.muli v1265 c1_i32_1513
  let v1267 : BitVec 32 := Scalar.addi c0_i32_1514 v1266
  v1267.toNat
def k0_dev29 (d0 : Dev nD) : Nat :=
  let c0_i32_1524 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1519 : BitVec 32 := 3#32
  let v1274 : BitVec 32 := Scalar.addi v2 c3_i32_1519
  let c4_i32_1520 : BitVec 32 := 4#32
  let v1275 : BitVec 32 := Scalar.remsi v1274 c4_i32_1520
  let c1_i32_1523 : BitVec 32 := 1#32
  let v1276 : BitVec 32 := Scalar.muli v1275 c1_i32_1523
  let v1277 : BitVec 32 := Scalar.addi c0_i32_1524 v1276
  v1277.toNat
def k0_off6 (d0 : Dev nD) (c1_i32_1551 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1550 : BitVec 32 := 4#32
  let v1296 : BitVec 32 := Scalar.addi v2 c4_i32_1550
  let v1297 : BitVec 32 := Scalar.subi v1296 c1_i32_1551
  let c4_i32_1552 : BitVec 32 := 4#32
  let v1298 : BitVec 32 := Scalar.remsi v1297 c4_i32_1552
  let c0_i32_1557 : BitVec 32 := 0#32
  let c0_i32_1558 : BitVec 32 := 0#32
  ![v1298.toNat, 0, 0]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c0_i32_1600 : BitVec 32 := 0#32
  let c0_i32_1601 : BitVec 32 := 0#32
  let c0_i32_1602 : BitVec 32 := 0#32
  ![v1332.toNat, 0, 0, 0]
def k0_off8 (d0 : Dev nD) (c0_i32_1608 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1606 : BitVec 32 := 1#32
  let v1350 : BitVec 32 := Scalar.addi v2 c1_i32_1606
  let c4_i32_1607 : BitVec 32 := 4#32
  let v1351 : BitVec 32 := Scalar.addi v1350 c4_i32_1607
  let v1352 : BitVec 32 := Scalar.subi v1351 c0_i32_1608
  let c4_i32_1609 : BitVec 32 := 4#32
  let v1353 : BitVec 32 := Scalar.remsi v1352 c4_i32_1609
  let c0_i32_1611 : BitVec 32 := 0#32
  let c0_i32_1618 : BitVec 32 := 0#32
  let c0_i32_1619 : BitVec 32 := 0#32
  ![v1353.toNat, 0, 0, 0]
def k0_dev30 (d0 : Dev nD) : Nat :=
  let c0_i32_1617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1616 : BitVec 32 := 1#32
  let v1354 : BitVec 32 := Scalar.muli v7 c1_i32_1616
  let v1355 : BitVec 32 := Scalar.addi c0_i32_1617 v1354
  v1355.toNat
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c4_i32_1628 : BitVec 32 := 4#32
  let c0_i32_1629 : BitVec 32 := 0#32
  let c0_i32_1630 : BitVec 32 := 0#32
  ![v1334.toNat, 4, 0, 0]
def k0_off10 (d0 : Dev nD) (c0_i32_1635 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1634 : BitVec 32 := 3#32
  let v1379 : BitVec 32 := Scalar.addi v2 c3_i32_1634
  let v1380 : BitVec 32 := Scalar.addi v1379 c0_i32_1635
  let c4_i32_1636 : BitVec 32 := 4#32
  let v1381 : BitVec 32 := Scalar.remsi v1380 c4_i32_1636
  let c4_i32_1638 : BitVec 32 := 4#32
  let c0_i32_1645 : BitVec 32 := 0#32
  let c0_i32_1646 : BitVec 32 := 0#32
  ![v1381.toNat, 4, 0, 0]
def k0_dev31 (d0 : Dev nD) : Nat :=
  let c0_i32_1644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1643 : BitVec 32 := 1#32
  let v1382 : BitVec 32 := Scalar.muli v5 c1_i32_1643
  let v1383 : BitVec 32 := Scalar.addi c0_i32_1644 v1382
  v1383.toNat
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c1_i32_1655 : BitVec 32 := 1#32
  let c0_i32_1656 : BitVec 32 := 0#32
  let c0_i32_1657 : BitVec 32 := 0#32
  ![v1332.toNat, 1, 0, 0]
def k0_off12 (d0 : Dev nD) (c0_i32_1663 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1661 : BitVec 32 := 1#32
  let v1407 : BitVec 32 := Scalar.addi v2 c1_i32_1661
  let c4_i32_1662 : BitVec 32 := 4#32
  let v1408 : BitVec 32 := Scalar.addi v1407 c4_i32_1662
  let v1409 : BitVec 32 := Scalar.subi v1408 c0_i32_1663
  let c4_i32_1664 : BitVec 32 := 4#32
  let v1410 : BitVec 32 := Scalar.remsi v1409 c4_i32_1664
  let c1_i32_1666 : BitVec 32 := 1#32
  let c0_i32_1673 : BitVec 32 := 0#32
  let c0_i32_1674 : BitVec 32 := 0#32
  ![v1410.toNat, 1, 0, 0]
def k0_dev32 (d0 : Dev nD) : Nat :=
  let c0_i32_1672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1671 : BitVec 32 := 1#32
  let v1411 : BitVec 32 := Scalar.muli v7 c1_i32_1671
  let v1412 : BitVec 32 := Scalar.addi c0_i32_1672 v1411
  v1412.toNat
def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c5_i32_1683 : BitVec 32 := 5#32
  let c0_i32_1684 : BitVec 32 := 0#32
  let c0_i32_1685 : BitVec 32 := 0#32
  ![v1334.toNat, 5, 0, 0]
def k0_off14 (d0 : Dev nD) (c0_i32_1690 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1689 : BitVec 32 := 3#32
  let v1436 : BitVec 32 := Scalar.addi v2 c3_i32_1689
  let v1437 : BitVec 32 := Scalar.addi v1436 c0_i32_1690
  let c4_i32_1691 : BitVec 32 := 4#32
  let v1438 : BitVec 32 := Scalar.remsi v1437 c4_i32_1691
  let c5_i32_1693 : BitVec 32 := 5#32
  let c0_i32_1700 : BitVec 32 := 0#32
  let c0_i32_1701 : BitVec 32 := 0#32
  ![v1438.toNat, 5, 0, 0]
def k0_dev33 (d0 : Dev nD) : Nat :=
  let c0_i32_1699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1698 : BitVec 32 := 1#32
  let v1439 : BitVec 32 := Scalar.muli v5 c1_i32_1698
  let v1440 : BitVec 32 := Scalar.addi c0_i32_1699 v1439
  v1440.toNat
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c2_i32_1710 : BitVec 32 := 2#32
  let c0_i32_1711 : BitVec 32 := 0#32
  let c0_i32_1712 : BitVec 32 := 0#32
  ![v1332.toNat, 2, 0, 0]
def k0_off16 (d0 : Dev nD) (c0_i32_1718 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1716 : BitVec 32 := 1#32
  let v1464 : BitVec 32 := Scalar.addi v2 c1_i32_1716
  let c4_i32_1717 : BitVec 32 := 4#32
  let v1465 : BitVec 32 := Scalar.addi v1464 c4_i32_1717
  let v1466 : BitVec 32 := Scalar.subi v1465 c0_i32_1718
  let c4_i32_1719 : BitVec 32 := 4#32
  let v1467 : BitVec 32 := Scalar.remsi v1466 c4_i32_1719
  let c2_i32_1721 : BitVec 32 := 2#32
  let c0_i32_1728 : BitVec 32 := 0#32
  let c0_i32_1729 : BitVec 32 := 0#32
  ![v1467.toNat, 2, 0, 0]
def k0_dev34 (d0 : Dev nD) : Nat :=
  let c0_i32_1727 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1726 : BitVec 32 := 1#32
  let v1468 : BitVec 32 := Scalar.muli v7 c1_i32_1726
  let v1469 : BitVec 32 := Scalar.addi c0_i32_1727 v1468
  v1469.toNat
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c6_i32_1738 : BitVec 32 := 6#32
  let c0_i32_1739 : BitVec 32 := 0#32
  let c0_i32_1740 : BitVec 32 := 0#32
  ![v1334.toNat, 6, 0, 0]
def k0_off18 (d0 : Dev nD) (c0_i32_1745 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1744 : BitVec 32 := 3#32
  let v1493 : BitVec 32 := Scalar.addi v2 c3_i32_1744
  let v1494 : BitVec 32 := Scalar.addi v1493 c0_i32_1745
  let c4_i32_1746 : BitVec 32 := 4#32
  let v1495 : BitVec 32 := Scalar.remsi v1494 c4_i32_1746
  let c6_i32_1748 : BitVec 32 := 6#32
  let c0_i32_1755 : BitVec 32 := 0#32
  let c0_i32_1756 : BitVec 32 := 0#32
  ![v1495.toNat, 6, 0, 0]
def k0_dev35 (d0 : Dev nD) : Nat :=
  let c0_i32_1754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1753 : BitVec 32 := 1#32
  let v1496 : BitVec 32 := Scalar.muli v5 c1_i32_1753
  let v1497 : BitVec 32 := Scalar.addi c0_i32_1754 v1496
  v1497.toNat
def k0_off19 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c3_i32_1765 : BitVec 32 := 3#32
  let c0_i32_1766 : BitVec 32 := 0#32
  let c0_i32_1767 : BitVec 32 := 0#32
  ![v1332.toNat, 3, 0, 0]
def k0_off20 (d0 : Dev nD) (c0_i32_1773 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1771 : BitVec 32 := 1#32
  let v1521 : BitVec 32 := Scalar.addi v2 c1_i32_1771
  let c4_i32_1772 : BitVec 32 := 4#32
  let v1522 : BitVec 32 := Scalar.addi v1521 c4_i32_1772
  let v1523 : BitVec 32 := Scalar.subi v1522 c0_i32_1773
  let c4_i32_1774 : BitVec 32 := 4#32
  let v1524 : BitVec 32 := Scalar.remsi v1523 c4_i32_1774
  let c3_i32_1776 : BitVec 32 := 3#32
  let c0_i32_1783 : BitVec 32 := 0#32
  let c0_i32_1784 : BitVec 32 := 0#32
  ![v1524.toNat, 3, 0, 0]
def k0_dev36 (d0 : Dev nD) : Nat :=
  let c0_i32_1782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1781 : BitVec 32 := 1#32
  let v1525 : BitVec 32 := Scalar.muli v7 c1_i32_1781
  let v1526 : BitVec 32 := Scalar.addi c0_i32_1782 v1525
  v1526.toNat
def k0_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c7_i32_1793 : BitVec 32 := 7#32
  let c0_i32_1794 : BitVec 32 := 0#32
  let c0_i32_1795 : BitVec 32 := 0#32
  ![v1334.toNat, 7, 0, 0]
def k0_off22 (d0 : Dev nD) (c0_i32_1800 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1799 : BitVec 32 := 3#32
  let v1550 : BitVec 32 := Scalar.addi v2 c3_i32_1799
  let v1551 : BitVec 32 := Scalar.addi v1550 c0_i32_1800
  let c4_i32_1801 : BitVec 32 := 4#32
  let v1552 : BitVec 32 := Scalar.remsi v1551 c4_i32_1801
  let c7_i32_1803 : BitVec 32 := 7#32
  let c0_i32_1810 : BitVec 32 := 0#32
  let c0_i32_1811 : BitVec 32 := 0#32
  ![v1552.toNat, 7, 0, 0]
def k0_dev37 (d0 : Dev nD) : Nat :=
  let c0_i32_1809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1808 : BitVec 32 := 1#32
  let v1553 : BitVec 32 := Scalar.muli v5 c1_i32_1808
  let v1554 : BitVec 32 := Scalar.addi c0_i32_1809 v1553
  v1554.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c1024_i32_1824 : BitVec 32 := 1024#32
  let v1575 : BitVec 32 := Scalar.muli v1332 c1024_i32_1824
  let c0_i32_1825 : BitVec 32 := 0#32
  ![v1575.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c1024_i32_1837 : BitVec 32 := 1024#32
  let v1590 : BitVec 32 := Scalar.muli v1334 c1024_i32_1837
  let c4096_i32 : BitVec 32 := 4096#32
  ![v1590.toNat, 4096]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c1024_i32_1849 : BitVec 32 := 1024#32
  let v1605 : BitVec 32 := Scalar.muli v1332 c1024_i32_1849
  let c1024_i32_1850 : BitVec 32 := 1024#32
  ![v1605.toNat, 1024]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c1024_i32_1862 : BitVec 32 := 1024#32
  let v1620 : BitVec 32 := Scalar.muli v1334 c1024_i32_1862
  let c5120_i32 : BitVec 32 := 5120#32
  ![v1620.toNat, 5120]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c1024_i32_1874 : BitVec 32 := 1024#32
  let v1635 : BitVec 32 := Scalar.muli v1332 c1024_i32_1874
  let c2048_i32 : BitVec 32 := 2048#32
  ![v1635.toNat, 2048]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c1024_i32_1886 : BitVec 32 := 1024#32
  let v1650 : BitVec 32 := Scalar.muli v1334 c1024_i32_1886
  let c6144_i32 : BitVec 32 := 6144#32
  ![v1650.toNat, 6144]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1590 : BitVec 32 := 1#32
  let v1331 : BitVec 32 := Scalar.addi v2 c1_i32_1590
  let c4_i32_1591 : BitVec 32 := 4#32
  let v1332 : BitVec 32 := Scalar.remsi v1331 c4_i32_1591
  let c1024_i32_1898 : BitVec 32 := 1024#32
  let v1665 : BitVec 32 := Scalar.muli v1332 c1024_i32_1898
  let c3072_i32 : BitVec 32 := 3072#32
  ![v1665.toNat, 3072]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1592 : BitVec 32 := 3#32
  let v1333 : BitVec 32 := Scalar.addi v2 c3_i32_1592
  let c4_i32_1593 : BitVec 32 := 4#32
  let v1334 : BitVec 32 := Scalar.remsi v1333 c4_i32_1593
  let c1024_i32_1910 : BitVec 32 := 1024#32
  let v1680 : BitVec 32 := Scalar.muli v1334 c1024_i32_1910
  let c7168_i32 : BitVec 32 := 7168#32
  ![v1680.toNat, 7168]
def k0_dev38 (d0 : Dev nD) : Nat :=
  let c0_i32_1935 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1934 : BitVec 32 := 1#32
  let v1695 : BitVec 32 := Scalar.muli v7 c1_i32_1934
  let v1696 : BitVec 32 := Scalar.addi c0_i32_1935 v1695
  v1696.toNat
def k0_off31 (d0 : Dev nD) (c1_i32_1942 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1940 : BitVec 32 := 1#32
  let v1705 : BitVec 32 := Scalar.addi v2 c1_i32_1940
  let c4_i32_1941 : BitVec 32 := 4#32
  let v1706 : BitVec 32 := Scalar.addi v1705 c4_i32_1941
  let v1707 : BitVec 32 := Scalar.subi v1706 c1_i32_1942
  let c4_i32_1943 : BitVec 32 := 4#32
  let v1708 : BitVec 32 := Scalar.remsi v1707 c4_i32_1943
  let c1024_i32_1954 : BitVec 32 := 1024#32
  let v1721 : BitVec 32 := Scalar.muli v1708 c1024_i32_1954
  let c0_i32_1955 : BitVec 32 := 0#32
  ![v1721.toNat, 0]
def k0_dev39 (d0 : Dev nD) : Nat :=
  let c0_i32_1979 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1978 : BitVec 32 := 1#32
  let v1735 : BitVec 32 := Scalar.muli v5 c1_i32_1978
  let v1736 : BitVec 32 := Scalar.addi c0_i32_1979 v1735
  v1736.toNat
def k0_off32 (d0 : Dev nD) (c1_i32_1985 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1984 : BitVec 32 := 3#32
  let v1745 : BitVec 32 := Scalar.addi v2 c3_i32_1984
  let v1746 : BitVec 32 := Scalar.addi v1745 c1_i32_1985
  let c4_i32_1986 : BitVec 32 := 4#32
  let v1747 : BitVec 32 := Scalar.remsi v1746 c4_i32_1986
  let c1024_i32_1997 : BitVec 32 := 1024#32
  let v1760 : BitVec 32 := Scalar.muli v1747 c1024_i32_1997
  let c4096_i32_1998 : BitVec 32 := 4096#32
  ![v1760.toNat, 4096]
def k0_dev40 (d0 : Dev nD) : Nat :=
  let c0_i32_2023 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2022 : BitVec 32 := 1#32
  let v1775 : BitVec 32 := Scalar.muli v7 c1_i32_2022
  let v1776 : BitVec 32 := Scalar.addi c0_i32_2023 v1775
  v1776.toNat
def k0_off33 (d0 : Dev nD) (c1_i32_2030 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2028 : BitVec 32 := 1#32
  let v1785 : BitVec 32 := Scalar.addi v2 c1_i32_2028
  let c4_i32_2029 : BitVec 32 := 4#32
  let v1786 : BitVec 32 := Scalar.addi v1785 c4_i32_2029
  let v1787 : BitVec 32 := Scalar.subi v1786 c1_i32_2030
  let c4_i32_2031 : BitVec 32 := 4#32
  let v1788 : BitVec 32 := Scalar.remsi v1787 c4_i32_2031
  let c1024_i32_2042 : BitVec 32 := 1024#32
  let v1801 : BitVec 32 := Scalar.muli v1788 c1024_i32_2042
  let c1024_i32_2043 : BitVec 32 := 1024#32
  ![v1801.toNat, 1024]
def k0_dev41 (d0 : Dev nD) : Nat :=
  let c0_i32_2067 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2066 : BitVec 32 := 1#32
  let v1815 : BitVec 32 := Scalar.muli v5 c1_i32_2066
  let v1816 : BitVec 32 := Scalar.addi c0_i32_2067 v1815
  v1816.toNat
def k0_off34 (d0 : Dev nD) (c1_i32_2073 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2072 : BitVec 32 := 3#32
  let v1825 : BitVec 32 := Scalar.addi v2 c3_i32_2072
  let v1826 : BitVec 32 := Scalar.addi v1825 c1_i32_2073
  let c4_i32_2074 : BitVec 32 := 4#32
  let v1827 : BitVec 32 := Scalar.remsi v1826 c4_i32_2074
  let c1024_i32_2085 : BitVec 32 := 1024#32
  let v1840 : BitVec 32 := Scalar.muli v1827 c1024_i32_2085
  let c5120_i32_2086 : BitVec 32 := 5120#32
  ![v1840.toNat, 5120]
def k0_dev42 (d0 : Dev nD) : Nat :=
  let c0_i32_2111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2110 : BitVec 32 := 1#32
  let v1855 : BitVec 32 := Scalar.muli v7 c1_i32_2110
  let v1856 : BitVec 32 := Scalar.addi c0_i32_2111 v1855
  v1856.toNat
def k0_off35 (d0 : Dev nD) (c1_i32_2118 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2116 : BitVec 32 := 1#32
  let v1865 : BitVec 32 := Scalar.addi v2 c1_i32_2116
  let c4_i32_2117 : BitVec 32 := 4#32
  let v1866 : BitVec 32 := Scalar.addi v1865 c4_i32_2117
  let v1867 : BitVec 32 := Scalar.subi v1866 c1_i32_2118
  let c4_i32_2119 : BitVec 32 := 4#32
  let v1868 : BitVec 32 := Scalar.remsi v1867 c4_i32_2119
  let c1024_i32_2130 : BitVec 32 := 1024#32
  let v1881 : BitVec 32 := Scalar.muli v1868 c1024_i32_2130
  let c2048_i32_2131 : BitVec 32 := 2048#32
  ![v1881.toNat, 2048]
def k0_dev43 (d0 : Dev nD) : Nat :=
  let c0_i32_2155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2154 : BitVec 32 := 1#32
  let v1895 : BitVec 32 := Scalar.muli v5 c1_i32_2154
  let v1896 : BitVec 32 := Scalar.addi c0_i32_2155 v1895
  v1896.toNat
def k0_off36 (d0 : Dev nD) (c1_i32_2161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2160 : BitVec 32 := 3#32
  let v1905 : BitVec 32 := Scalar.addi v2 c3_i32_2160
  let v1906 : BitVec 32 := Scalar.addi v1905 c1_i32_2161
  let c4_i32_2162 : BitVec 32 := 4#32
  let v1907 : BitVec 32 := Scalar.remsi v1906 c4_i32_2162
  let c1024_i32_2173 : BitVec 32 := 1024#32
  let v1920 : BitVec 32 := Scalar.muli v1907 c1024_i32_2173
  let c6144_i32_2174 : BitVec 32 := 6144#32
  ![v1920.toNat, 6144]
def k0_dev44 (d0 : Dev nD) : Nat :=
  let c0_i32_2199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2198 : BitVec 32 := 1#32
  let v1935 : BitVec 32 := Scalar.muli v7 c1_i32_2198
  let v1936 : BitVec 32 := Scalar.addi c0_i32_2199 v1935
  v1936.toNat
def k0_off37 (d0 : Dev nD) (c1_i32_2206 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2204 : BitVec 32 := 1#32
  let v1945 : BitVec 32 := Scalar.addi v2 c1_i32_2204
  let c4_i32_2205 : BitVec 32 := 4#32
  let v1946 : BitVec 32 := Scalar.addi v1945 c4_i32_2205
  let v1947 : BitVec 32 := Scalar.subi v1946 c1_i32_2206
  let c4_i32_2207 : BitVec 32 := 4#32
  let v1948 : BitVec 32 := Scalar.remsi v1947 c4_i32_2207
  let c1024_i32_2218 : BitVec 32 := 1024#32
  let v1961 : BitVec 32 := Scalar.muli v1948 c1024_i32_2218
  let c3072_i32_2219 : BitVec 32 := 3072#32
  ![v1961.toNat, 3072]
def k0_dev45 (d0 : Dev nD) : Nat :=
  let c0_i32_2243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2242 : BitVec 32 := 1#32
  let v1975 : BitVec 32 := Scalar.muli v5 c1_i32_2242
  let v1976 : BitVec 32 := Scalar.addi c0_i32_2243 v1975
  v1976.toNat
def k0_off38 (d0 : Dev nD) (c1_i32_2249 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2248 : BitVec 32 := 3#32
  let v1985 : BitVec 32 := Scalar.addi v2 c3_i32_2248
  let v1986 : BitVec 32 := Scalar.addi v1985 c1_i32_2249
  let c4_i32_2250 : BitVec 32 := 4#32
  let v1987 : BitVec 32 := Scalar.remsi v1986 c4_i32_2250
  let c1024_i32_2261 : BitVec 32 := 1024#32
  let v2000 : BitVec 32 := Scalar.muli v1987 c1024_i32_2261
  let c7168_i32_2262 : BitVec 32 := 7168#32
  ![v2000.toNat, 7168]
def k0_dev46 (d0 : Dev nD) : Nat :=
  let c0_i32_2375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2374 : BitVec 32 := 1#32
  let v2063 : BitVec 32 := Scalar.muli v7 c1_i32_2374
  let v2064 : BitVec 32 := Scalar.addi c0_i32_2375 v2063
  v2064.toNat
def k0_dev47 (d0 : Dev nD) : Nat :=
  let c0_i32_2419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2418 : BitVec 32 := 1#32
  let v2103 : BitVec 32 := Scalar.muli v5 c1_i32_2418
  let v2104 : BitVec 32 := Scalar.addi c0_i32_2419 v2103
  v2104.toNat
def k0_dev48 (d0 : Dev nD) : Nat :=
  let c0_i32_2463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2462 : BitVec 32 := 1#32
  let v2143 : BitVec 32 := Scalar.muli v7 c1_i32_2462
  let v2144 : BitVec 32 := Scalar.addi c0_i32_2463 v2143
  v2144.toNat
def k0_dev49 (d0 : Dev nD) : Nat :=
  let c0_i32_2507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2506 : BitVec 32 := 1#32
  let v2183 : BitVec 32 := Scalar.muli v5 c1_i32_2506
  let v2184 : BitVec 32 := Scalar.addi c0_i32_2507 v2183
  v2184.toNat
def k0_dev50 (d0 : Dev nD) : Nat :=
  let c0_i32_2551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2550 : BitVec 32 := 1#32
  let v2223 : BitVec 32 := Scalar.muli v7 c1_i32_2550
  let v2224 : BitVec 32 := Scalar.addi c0_i32_2551 v2223
  v2224.toNat
def k0_dev51 (d0 : Dev nD) : Nat :=
  let c0_i32_2595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2594 : BitVec 32 := 1#32
  let v2263 : BitVec 32 := Scalar.muli v5 c1_i32_2594
  let v2264 : BitVec 32 := Scalar.addi c0_i32_2595 v2263
  v2264.toNat
def k0_dev52 (d0 : Dev nD) : Nat :=
  let c0_i32_2639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2638 : BitVec 32 := 1#32
  let v2303 : BitVec 32 := Scalar.muli v7 c1_i32_2638
  let v2304 : BitVec 32 := Scalar.addi c0_i32_2639 v2303
  v2304.toNat
def k0_dev53 (d0 : Dev nD) : Nat :=
  let c0_i32_2683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2682 : BitVec 32 := 1#32
  let v2343 : BitVec 32 := Scalar.muli v5 c1_i32_2682
  let v2344 : BitVec 32 := Scalar.addi c0_i32_2683 v2343
  v2344.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 15
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S4096x8192, .bf16⟩
  | .local _ .vmem, ⟨0, _⟩ => ⟨S4096x8192, .f32⟩
  | .local _ .vmem, ⟨1, _⟩ => ⟨S1x1, .f32⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Loops.lean ====
/-
The kernel's body read as loops.

The printed body is one long straight line: every hop and every tile written out. Here it is written
once per step, for a hop `h` and a tile `j` as variables, and the steps are run over the tiles in the
order the kernel takes them. `body_eq` says the printed body IS that program.
-/
module

public import proofs.«01_k».proof.Proof.Gen.KernelIdeal.Skeleton
public import proofs.«01_k».proof.Proof.Gen.KernelIdeal.Launch

@[expose] public section

noncomputable section

namespace Cert.RingMM

open Cert.KernelIdeal Cert.KernelIdeal.Gen
open Idealize.ShloMosaic Idealize.SL.Sem

variable {F : FTy → Type} [FloatOps F]

set_option quotPrecheck false in
local notation "ℙ" => Prog (TpuEff nD τ sig (Elt F) Λ₀ .tc)

/-! ## The memory the body works on -/

abbrev xM : Memref sig .tc .vmem S4096x1024 .bf16 := Memref.whole cc0_stg0_0
abbrev wM : Memref sig .tc .vmem S1024x8192 .bf16 := Memref.whole cc0_stg1_0
abbrev oM : Memref sig .tc .hbm S4096x8192 .bf16 := Memref.whole main_v1_0
abbrev cM : Memref sig .tc .hbm S3x8x1024x1024 .bf16 := Memref.whole main_v1_1
abbrev gM : Memref sig .tc .hbm S4x8x1024x1024 .fp8e4m3 := Memref.whole main_v1_2
abbrev sM : Memref sig .tc .vmem S8x1024x1024 .bf16 := Memref.whole cc0_scratch0
abbrev tM : Memref sig .tc .vmem S1024x1024 .bf16 := Memref.whole cc0_scratch1
abbrev qM : Memref sig .tc .vmem S1024x1024 .fp8e4m3 := Memref.whole cc0_scratch2
abbrev aM : Memref sig .tc .vmem S4x8x128 .f32 := Memref.whole cc0_scratch3
abbrev cpS : DmaSem sig := (cc0_scratch10 : DmaSems sig S_).sem

/-! ## Tiles, neighbours and addresses -/

/-- The first four column tiles travel to the right round the ring, the last four to the left. -/
def rt (j : Fin 8) : Bool := Nat.blt j.val 4

/-- The order in which the tiles are taken: right-going and left-going ones by turns. -/
def tiles : List (Fin 8) :=
  [⟨0, by decide⟩, ⟨4, by decide⟩, ⟨1, by decide⟩, ⟨5, by decide⟩, ⟨2, by decide⟩, ⟨6, by decide⟩, ⟨3, by decide⟩, ⟨7, by decide⟩]

/-- The right neighbour, as the kernel computes it. -/
def rightN (d : Dev nD) : Dev nD := ⟨k0_dev3 d, k0_dev3_lt d⟩
/-- The left neighbour, as the kernel computes it. -/
def leftN (d : Dev nD) : Dev nD := ⟨k0_dev4 d, k0_dev4_lt d⟩
/-- The neighbour tile `j` is sent to. -/
def dstN (j : Fin 8) (d : Dev nD) : Dev nD := bif rt j then rightN d else leftN d

/-- The rows of the local operand that hop `h` multiplies for tile `j`. -/
def xin (h : Fin 3) (j : Fin 8) (d : Dev nD) : Fin 2 → Nat :=
  bif rt j then k0_off2 d (BitVec.ofNat 32 h.val) else k0_off3 d (BitVec.ofNat 32 h.val)
theorem xin_inb (h : Fin 3) (j : Fin 8) (d : Dev nD) : ∀ a, xin h j d a + S1024x1024.size a ≤ S4096x1024.size a := by
  unfold xin; cases rt j
  · exact k0_off3_inb d h
  · exact k0_off2_inb d h

/-- The columns of tile `j` in the local weights. -/
def wof (j : Fin 8) : Fin 2 → Nat := ![0, 1024 * j.val]
theorem wof_inb (j : Fin 8) : ∀ a, wof j a + S1024x1024.size a ≤ S1024x8192.size a := by revert j; decide

def sof (j : Fin 8) : Fin 3 → Nat := ![j.val, 0, 0]
theorem sof_inb (j : Fin 8) : ∀ a, sof j a + S1x1024x1024.size a ≤ S8x1024x1024.size a := by revert j; decide
theorem sof_packed (j : Fin 8) : (Rect.unit (s := S8x1024x1024) (sof j) S1x1024x1024.size (sof_inb j)).PackedRows (EltTy.packing .bf16) := by
  revert j; decide
theorem sof_words (j : Fin 8) : (Rect.unit (s := S8x1024x1024) (sof j) S1x1024x1024.size (sof_inb j)).WholeWords (EltTy.packing .bf16) :=
  (sof_packed j).wholeWords

def cof (h : Fin 3) (j : Fin 8) : Fin 4 → Nat := ![h.val, j.val, 0, 0]
theorem cof_inb (h : Fin 3) (j : Fin 8) : ∀ a, cof h j a + S1x1x1024x1024.size a ≤ S3x8x1024x1024.size a := by revert h j; decide
theorem cof_words (h : Fin 3) (j : Fin 8) : (Rect.unit (s := S3x8x1024x1024) (cof h j) S1x1x1024x1024.size (cof_inb h j)).WholeWords (EltTy.packing .bf16) := by
  revert h j; decide +kernel

def mof (h : Fin 3) (j : Fin 8) : Fin 2 → Nat := ![h.val, j.val]
theorem mof_inb (h : Fin 3) (j : Fin 8) : ∀ a, mof h j a + S1x1.size a ≤ S3x8.size a := by revert h j; decide

def kof (k : Fin 3) : Fin 1 → Nat := ![k.val]
theorem kof_inb (k : Fin 3) : ∀ a, kof k a + S1.size a ≤ S3.size a := by revert k; decide

/-- Where device `d` keeps the quantised tile `j` it owns. -/
def gown (j : Fin 8) (d : Dev nD) : Fin 4 → Nat :=
  match j.val with
  | 0 => k0_off7 d | 1 => k0_off11 d | 2 => k0_off15 d | 3 => k0_off19 d
  | 4 => k0_off9 d | 5 => k0_off13 d | 6 => k0_off17 d | _ => k0_off21 d

/-- The slot of the gathered array that hop `r` of the second ring moves for tile `j`. -/
def ghop (r : Fin 4) (j : Fin 8) (d : Dev nD) : Fin 4 → Nat :=
  match j.val with
  | 0 => k0_off8 d (BitVec.ofNat 32 r.val) | 1 => k0_off12 d (BitVec.ofNat 32 r.val)
  | 2 => k0_off16 d (BitVec.ofNat 32 r.val) | 3 => k0_off20 d (BitVec.ofNat 32 r.val)
  | 4 => k0_off10 d (BitVec.ofNat 32 r.val) | 5 => k0_off14 d (BitVec.ofNat 32 r.val)
  | 6 => k0_off18 d (BitVec.ofNat 32 r.val) | _ => k0_off22 d (BitVec.ofNat 32 r.val)

/-- Where the result of tile `j` of the device's own rows goes. -/
def oown (j : Fin 8) (d : Dev nD) : Fin 2 → Nat :=
  match j.val with
  | 0 => k0_off23 d | 1 => k0_off25 d | 2 => k0_off27 d | 3 => k0_off29 d
  | 4 => k0_off24 d | 5 => k0_off26 d | 6 => k0_off28 d | _ => k0_off30 d

/-- Where the result of the tile received at hop `h` goes. -/
def ohop (h : Fin 3) (j : Fin 8) (d : Dev nD) : Fin 2 → Nat :=
  match j.val with
  | 0 => k0_off31 d (BitVec.ofNat 32 (1 + h.val)) | 1 => k0_off33 d (BitVec.ofNat 32 (1 + h.val))
  | 2 => k0_off35 d (BitVec.ofNat 32 (1 + h.val)) | 3 => k0_off37 d (BitVec.ofNat 32 (1 + h.val))
  | 4 => k0_off32 d (BitVec.ofNat 32 (1 + h.val)) | 5 => k0_off34 d (BitVec.ofNat 32 (1 + h.val))
  | 6 => k0_off36 d (BitVec.ofNat 32 (1 + h.val)) | _ => k0_off38 d (BitVec.ofNat 32 (1 + h.val))

/-- The row block that tile `j` of device `d` comes to at step `r` of the second ring: step 0 is the device's own. -/
def chunk (r : Fin 4) (j : Fin 8) (d : Dev nD) : Fin 4 :=
  ⟨(bif rt j then d.val + 5 - r.val else d.val + r.val + 3) % 4, Nat.mod_lt _ (by decide)⟩

/-- Slot `(c, j)` of the gathered array. -/
def gof (c : Fin 4) (j : Fin 8) : Fin 4 → Nat := ![c.val, j.val, 0, 0]
theorem gof_inb (c : Fin 4) (j : Fin 8) : ∀ a, gof c j a + S1x1x1024x1024.size a ≤ S4x8x1024x1024.size a := by revert c j; decide
theorem gof_words (c : Fin 4) (j : Fin 8) : (Rect.unit (s := S4x8x1024x1024) (gof c j) S1x1x1024x1024.size (gof_inb c j)).WholeWords (EltTy.packing .fp8e4m3) := by
  revert c j; decide +kernel

/-- Block `(c, j)` of the result. -/
def oof (c : Fin 4) (j : Fin 8) : Fin 2 → Nat := ![1024 * c.val, 1024 * j.val]
theorem oof_inb (c : Fin 4) (j : Fin 8) : ∀ a, oof c j a + S1024x1024.size a ≤ S4096x8192.size a := by revert c j; decide
theorem oof_words (c : Fin 4) (j : Fin 8) : (Rect.unit (s := S4096x8192) (oof c j) S1024x1024.size (oof_inb c j)).WholeWords (EltTy.packing .bf16) := by
  revert c j; decide +kernel

theorem gown_eq (j : Fin 8) (d : Dev nD) : gown j d = gof (chunk 0 j d) j := by
  revert j d; decide +kernel
theorem ghop_eq (r : Fin 4) (j : Fin 8) (d : Dev nD) : ghop r j d = gof (chunk r j d) j := by
  revert r j d; decide +kernel
theorem oown_eq (j : Fin 8) (d : Dev nD) : oown j d = oof (chunk 0 j d) j := by
  revert j d; decide +kernel
theorem ohop_eq (h : Fin 3) (j : Fin 8) (d : Dev nD) : ohop h j d = oof (chunk h.succ j d) j := by
  revert h j d; decide +kernel

/-! ## Inbounds facts of the printed addresses -/

theorem gown_inb (j : Fin 8) (d : Dev nD) : ∀ a, gown j d a + S1x1x1024x1024.size a ≤ S4x8x1024x1024.size a := by
  rw [gown_eq]; exact gof_inb _ _
theorem ghop_inb (r : Fin 4) (j : Fin 8) (d : Dev nD) : ∀ a, ghop r j d a + S1x1x1024x1024.size a ≤ S4x8x1024x1024.size a := by
  rw [ghop_eq]; exact gof_inb _ _
theorem oown_inb (j : Fin 8) (d : Dev nD) : ∀ a, oown j d a + S1024x1024.size a ≤ S4096x8192.size a := by
  rw [oown_eq]; exact oof_inb _ _
theorem ohop_inb (h : Fin 3) (j : Fin 8) (d : Dev nD) : ∀ a, ohop h j d a + S1024x1024.size a ≤ S4096x8192.size a := by
  rw [ohop_eq]; exact oof_inb _ _
theorem gown_words (j : Fin 8) (d : Dev nD) (ho : ∀ a, gown j d a + S1x1x1024x1024.size a ≤ S4x8x1024x1024.size a) :
    (Rect.unit (s := S4x8x1024x1024) (gown j d) S1x1x1024x1024.size ho).WholeWords (EltTy.packing .fp8e4m3) := by
  revert ho; rw [gown_eq]; intro _; exact gof_words _ _
theorem ghop_words (r : Fin 4) (j : Fin 8) (d : Dev nD) (ho : ∀ a, ghop r j d a + S1x1x1024x1024.size a ≤ S4x8x1024x1024.size a) :
    (Rect.unit (s := S4x8x1024x1024) (ghop r j d) S1x1x1024x1024.size ho).WholeWords (EltTy.packing .fp8e4m3) := by
  revert ho; rw [ghop_eq]; intro _; exact gof_words _ _
theorem oown_words (j : Fin 8) (d : Dev nD) (ho : ∀ a, oown j d a + S1024x1024.size a ≤ S4096x8192.size a) :
    (Rect.unit (s := S4096x8192) (oown j d) S1024x1024.size ho).WholeWords (EltTy.packing .bf16) := by
  revert ho; rw [oown_eq]; intro _; exact oof_words _ _
theorem ohop_words (h : Fin 3) (j : Fin 8) (d : Dev nD) (ho : ∀ a, ohop h j d a + S1024x1024.size a ≤ S4096x8192.size a) :
    (Rect.unit (s := S4096x8192) (ohop h j d) S1024x1024.size ho).WholeWords (EltTy.packing .bf16) := by
  revert ho; rw [ohop_eq]; intro _; exact oof_words _ _

/-! ## Slots -/

/-- Tile `j`'s staging buffer. -/
def sAt (j : Fin 8) : Memref sig .tc .vmem S1024x1024 .bf16 :=
  (sM.slice (Rect.unit (s := S8x1024x1024) (sof j) S1x1024x1024.size (sof_inb j)) (fun _ => rfl)).squeeze S1024x1024 squeezes_S1x1024x1024_S1024x1024
/-- Where hop `h` of the first ring lands tile `j`. -/
def cAt (h : Fin 3) (j : Fin 8) : Memref sig .tc .hbm S1024x1024 .bf16 :=
  (cM.slice (Rect.unit (s := S3x8x1024x1024) (cof h j) S1x1x1024x1024.size (cof_inb h j)) (fun _ => rfl)).squeeze S1024x1024 squeezes_S1x1x1024x1024_S1024x1024
/-- A slot of the gathered array. -/
def gAt (o : Fin 4 → Nat) (ho : ∀ a, o a + S1x1x1024x1024.size a ≤ S4x8x1024x1024.size a) : Memref sig .tc .hbm S1024x1024 .fp8e4m3 :=
  (gM.slice (Rect.unit (s := S4x8x1024x1024) o S1x1x1024x1024.size ho) (fun _ => rfl)).squeeze S1024x1024 squeezes_S1x1x1024x1024_S1024x1024
/-- A block of the result. -/
def oAt (o : Fin 2 → Nat) (ho : ∀ a, o a + S1024x1024.size a ≤ S4096x8192.size a) : Memref sig .tc .hbm S1024x1024 .bf16 :=
  oM.slice (Rect.unit (s := S4096x8192) o S1024x1024.size ho) (fun _ => rfl)
/-- A row of the array of the devices' maxima. -/
def aAt (o : Fin 3 → Nat) (ho : ∀ a, o a + S1x8x128.size a ≤ S4x8x128.size a) : Memref sig .tc .vmem S1x8x128 .f32 :=
  aM.slice (Rect.unit (s := S4x8x128) o S1x8x128.size ho) (fun _ => rfl)

theorem sAt_words (j : Fin 8) : (sAt j).view.WordExact :=
  ((Memref.isWhole_whole _).wordExact_slice rfl _ (sof_words j)).reshape _ _
theorem cAt_words (h : Fin 3) (j : Fin 8) : (cAt h j).view.WordExact :=
  ((Memref.isWhole_whole _).wordExact_slice rfl _ (cof_words h j)).reshape _ _
theorem gAt_words (o : Fin 4 → Nat) (ho : ∀ a, o a + S1x1x1024x1024.size a ≤ S4x8x1024x1024.size a)
    (hw : (Rect.unit (s := S4x8x1024x1024) o S1x1x1024x1024.size ho).WholeWords (EltTy.packing .fp8e4m3)) : (gAt o ho).view.WordExact :=
  ((Memref.isWhole_whole _).wordExact_slice rfl _ hw).reshape _ _
theorem oAt_words (o : Fin 2 → Nat) (ho : ∀ a, o a + S1024x1024.size a ≤ S4096x8192.size a)
    (hw : (Rect.unit (s := S4096x8192) o S1024x1024.size ho).WholeWords (EltTy.packing .bf16)) : (oAt o ho).view.WordExact :=
  (Memref.isWhole_whole _).wordExact_slice rfl _ hw

/-- Semaphore `(h, j)` of a table of 24. -/
def sem2 (a : DmaSems sig S3x8) (h : Fin 3) (j : Fin 8) : DmaSem sig :=
  ((a.slice (Rect.unit (s := S3x8) (mof h j) S1x1.size (mof_inb h j))).squeeze S_ squeezes_S1x1_S_).sem
/-- Semaphore `k` of a table of 3. -/
def sem1 (a : DmaSems sig S3) (k : Fin 3) : DmaSem sig :=
  ((a.slice (Rect.unit (s := S3) (kof k) S1.size (kof_inb k))).squeeze S_ squeezes_S1_S_).sem

abbrev rsS (h : Fin 3) (j : Fin 8) : DmaSem sig := sem2 cc0_scratch4 h j
abbrev rsR (h : Fin 3) (j : Fin 8) : DmaSem sig := sem2 cc0_scratch5 h j
abbrev axS (k : Fin 3) : DmaSem sig := sem1 cc0_scratch6 k
abbrev axR (k : Fin 3) : DmaSem sig := sem1 cc0_scratch7 k
abbrev agS (h : Fin 3) (j : Fin 8) : DmaSem sig := sem2 cc0_scratch8 h j
abbrev agR (h : Fin 3) (j : Fin 8) : DmaSem sig := sem2 cc0_scratch9 h j

/-! ## What is stored -/

/-- The product of a row block of the local operand and a column tile of the local weights. -/
def part (x w : Vec F S1024x1024 .bf16) : FVec F S1024x1024 .f32 := k0_pay10 x w
/-- The first partial sum sent. -/
def first (x w : Vec F S1024x1024 .bf16) : FVec F S1x1024x1024 .bf16 := k0_pay1 x w
/-- A received partial sum with the local product added. -/
def accum (p : FVec F S1024x1024 .f32) (t : Vec F S1024x1024 .bf16) : FVec F S1x1024x1024 .bf16 := k0_pay11 p t
/-- The finished sum, clamped below at zero. -/
def relu (p : FVec F S1024x1024 .f32) (t : Vec F S1024x1024 .bf16) : FVec F S1024x1024 .f32 := k0_pay55 p t
/-- The finished sum as it is kept. -/
def final (p : FVec F S1024x1024 .f32) (t : Vec F S1024x1024 .bf16) : FVec F S1x1024x1024 .bf16 := k0_pay57 p t
/-- The running maximum with one more tile. -/
def maxUp (a : F .f32) (p : FVec F S1024x1024 .f32) (t : Vec F S1024x1024 .bf16) : F .f32 := k0_pay56 a p t
/-- The row of maxima a device sends. -/
def maxRow (a : F .f32) : FVec F S1x8x128 .f32 :=
  shapeCast S1x8x128 (broadcast S1x8x128 a) shapeCasts_S1x8x128_S1x8x128

/-! ## Loops -/

/-- Run a step over a list of tiles, passing a value along. -/
def loop {α : Type} (f : Fin 8 → α → ℙ α) : List (Fin 8) → α → ℙ α
  | [], a => .ret a
  | j :: l, a => f j a >>= loop f l

/-! ## The steps -/

/-- Signal both neighbours and wait for both. -/
def meet (d : Dev nD) : ℙ PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- Load the column tile `j` of the weights. -/
def loadW (j : Fin 8) : ℙ (Vec F S1024x1024 .bf16) :=
  Prog.lift (.load wM (Rect.unit (s := S1024x8192) (wof j) S1024x1024.size (wof_inb j)).toLoadRect (View.loadsAt_vmem h_S1024x1024))
/-- Load a row block of the operand. -/
def loadX (o : Fin 2 → Nat) (ho : ∀ a, o a + S1024x1024.size a ≤ S4096x1024.size a) : ℙ (Vec F S1024x1024 .bf16) :=
  Prog.lift (.load xM (Rect.unit (s := S4096x1024) o S1024x1024.size ho).toLoadRect (View.loadsAt_vmem h_S1024x1024))
/-- Load tile `j`'s staging buffer. -/
def loadS (j : Fin 8) : ℙ (Vec F S1x1024x1024 .bf16) :=
  Prog.lift (.load sM (Rect.unit (s := S8x1024x1024) (sof j) S1x1024x1024.size (sof_inb j)).toLoadRect (View.loadsAt_vmem h_S1x1024x1024))
/-- Fill tile `j`'s staging buffer. -/
def storeS (j : Fin 8) (v : FVec F S1x1024x1024 .bf16) : ℙ PUnit :=
  Prog.lift (.store sM (Rect.unit (s := S8x1024x1024) (sof j) S1x1024x1024.size (sof_inb j)) v Finset.univ
    (View.stores_vmem h_S1x1024x1024 ((Memref.isWhole_whole _).storeExact_slice rfl _ (sof_packed j)) (fun _ => rfl)) (.inl rfl))
def loadT : ℙ (Vec F S1024x1024 .bf16) :=
  Prog.lift (.load tM (Rect.unit (s := S1024x1024) ![0, 0] S1024x1024.size inb_S1024x1024_S1024x1024_0_0).toLoadRect (View.loadsAt_vmem h_S1024x1024))
def storeT (v : FVec F S1024x1024 .bf16) : ℙ PUnit :=
  Prog.lift (.store tM (Rect.unit (s := S1024x1024) ![0, 0] S1024x1024.size inb_S1024x1024_S1024x1024_0_0) v Finset.univ
    (View.stores_vmem h_S1024x1024 ((Memref.isWhole_whole _).storeExact_slice rfl _ packedbf16_S1024x1024_S1024x1024_0_0) (fun _ => rfl)) (.inl rfl))
def loadQ : ℙ (Vec F S1024x1024 .fp8e4m3) :=
  Prog.lift (.load qM (Rect.unit (s := S1024x1024) ![0, 0] S1024x1024.size inb_S1024x1024_S1024x1024_0_0).toLoadRect (View.loadsAt_vmem h_S1024x1024))
def storeQ (v : FVec F S1024x1024 .fp8e4m3) : ℙ PUnit :=
  Prog.lift (.store qM (Rect.unit (s := S1024x1024) ![0, 0] S1024x1024.size inb_S1024x1024_S1024x1024_0_0) v Finset.univ
    (View.stores_vmem h_S1024x1024 ((Memref.isWhole_whole _).storeExact_slice rfl _ packedfp8e4m3_S1024x1024_S1024x1024_0_0) (fun _ => rfl)) (.inl rfl))

/-- Send tile `j`'s staging buffer to the neighbour's landing slot of hop `h`. -/
def rsSend (h : Fin 3) (j : Fin 8) (d : Dev nD) : ℙ PUnit :=
  Prog.lift (.enqueueDma (sAt j) (.remote (Dev.tc (dstN j d)) (cAt h j) (.dma (rsS h j))) (.dma (rsR h j)) (sAt_words j) (cAt_words h j)
    ⟨⟨rfl, Or.inl rfl⟩, trivial⟩)

/-- The first partial product of tile `j`, sent on its way. -/
def rsFirst (d : Dev nD) (j : Fin 8) (_ : PUnit) : ℙ PUnit := do
  let x ← loadX (k0_off1 d) (k0_off1_inb d)
  let w ← loadW j
  let _ ← loadS j
  storeS j (first x w)
  rsSend 0 j d

/-- Bring the landed tile into the local buffer. -/
def fetchC (h : Fin 3) (j : Fin 8) : ℙ PUnit := do
  Prog.lift (.enqueueDma (cAt h j) (.here tM) (.dma cpS) (cAt_words h j) (Memref.isWhole_whole _).wordExact ⟨Or.inl rfl, trivial⟩)
  Prog.lift (.waitDma2 cpS (cAt h j) tM (cAt_words h j) (Memref.isWhole_whole _).wordExact)

/-- Put the quantised tile into its slot of the gathered array. -/
def putG (o : Fin 4 → Nat) (ho : ∀ a, o a + S1x1x1024x1024.size a ≤ S4x8x1024x1024.size a)
    (hw : (Rect.unit (s := S4x8x1024x1024) o S1x1x1024x1024.size ho).WholeWords (EltTy.packing .fp8e4m3)) : ℙ PUnit := do
  Prog.lift (.enqueueDma qM (.here (gAt o ho)) (.dma cpS) (Memref.isWhole_whole _).wordExact (gAt_words o ho hw) ⟨Or.inl rfl, trivial⟩)
  Prog.lift (.waitDma2 cpS qM (gAt o ho) (Memref.isWhole_whole _).wordExact (gAt_words o ho hw))

/-- Bring a slot of the gathered array into the local buffer. -/
def getG (o : Fin 4 → Nat) (ho : ∀ a, o a + S1x1x1024x1024.size a ≤ S4x8x1024x1024.size a)
    (hw : (Rect.unit (s := S4x8x1024x1024) o S1x1x1024x1024.size ho).WholeWords (EltTy.packing .fp8e4m3)) : ℙ PUnit := do
  Prog.lift (.enqueueDma (gAt o ho) (.here qM) (.dma cpS) (gAt_words o ho hw) (Memref.isWhole_whole _).wordExact ⟨Or.inl rfl, trivial⟩)
  Prog.lift (.waitDma2 cpS (gAt o ho) qM (gAt_words o ho hw) (Memref.isWhole_whole _).wordExact)

/-- Write the local buffer to its block of the result. -/
def putO (o : Fin 2 → Nat) (ho : ∀ a, o a + S1024x1024.size a ≤ S4096x8192.size a)
    (hw : (Rect.unit (s := S4096x8192) o S1024x1024.size ho).WholeWords (EltTy.packing .bf16)) : ℙ PUnit := do
  Prog.lift (.enqueueDma tM (.here (oAt o ho)) (.dma cpS) (Memref.isWhole_whole _).wordExact (oAt_words o ho hw) ⟨Or.inl rfl, trivial⟩)
  Prog.lift (.waitDma2 cpS tM (oAt o ho) (Memref.isWhole_whole _).wordExact (oAt_words o ho hw))

/-- What every later step of the first ring does first: wait until the earlier send of tile `j` is
    out and the neighbour's tile is in, and read it with the two blocks to multiply. -/
def rsWait (h : Fin 3) (j : Fin 8) : ℙ PUnit := do
  Prog.lift (.waitDma2 (rsS h j) (cAt h j) (sAt j) (cAt_words h j) (sAt_words j))
  Prog.lift (.waitDma2 (rsR h j) (sAt j) (cAt h j) (sAt_words j) (cAt_words h j))
  fetchC h j

/-- A middle step of the first ring. -/
def rsMid (d : Dev nD) (h h' : Fin 3) (j : Fin 8) (_ : PUnit) : ℙ PUnit := do
  let x ← loadX (xin h j d) (xin_inb h j d)
  let w ← loadW j
  rsWait h j
  let t ← loadT
  let _ ← loadS j
  storeS j (accum (part x w) t)
  rsSend h' j d

/-- A last step of the first ring: the tile's sum is finished, and the maximum goes on. -/
def rsLast (d : Dev nD) (j : Fin 8) (a : F .f32) : ℙ (F .f32) := do
  let x ← loadX (xin 2 j d) (xin_inb 2 j d)
  let w ← loadW j
  rsWait 2 j
  let t ← loadT
  let _ ← loadS j
  storeS j (final (part x w) t)
  pure (maxUp a (part x w) t)

/-- Send the own row of maxima to device `e` under semaphores `k`. -/
def axSend (d e : Dev nD) (k : Fin 3) : ℙ PUnit :=
  Prog.lift (.enqueueDma (aAt (k0_off5 d) (k0_off5_inb d)) (.remote (Dev.tc e) (aAt (k0_off5 d) (k0_off5_inb d)) (.dma (axS k))) (.dma (axR k))
    (View.wordExact_bits rfl) (View.wordExact_bits rfl) ⟨⟨rfl, Or.inl rfl⟩, trivial⟩)
def axWaitS (d : Dev nD) (k : Fin 3) : ℙ PUnit :=
  Prog.lift (.waitDma2 (axS k) (aAt (k0_off5 d) (k0_off5_inb d)) (aAt (k0_off5 d) (k0_off5_inb d)) (View.wordExact_bits rfl) (View.wordExact_bits rfl))
def axWaitR (d : Dev nD) (k : Fin 3) : ℙ PUnit :=
  Prog.lift (.waitDma2 (axR k) (aAt (k0_off5 d) (k0_off5_inb d)) (aAt (k0_off6 d (BitVec.ofNat 32 (1 + k.val))) (k0_off6_inb d k)) (View.wordExact_bits rfl) (View.wordExact_bits rfl))

/-- Exchange the maxima: every device writes its row, sends it to the three others and reads all four. -/
def exchange (d : Dev nD) (a : F .f32) : ℙ (Vec F S4x8x128 .f32) := do
  let _ ← Prog.lift (.load aM (Rect.unit (s := S4x8x128) (k0_off4 d) S1x8x128.size (k0_off4_inb d)).toLoadRect (View.loadsAt_vmem h_S1x8x128))
  Prog.lift (.store aM (Rect.unit (s := S4x8x128) (k0_off4 d) S1x8x128.size (k0_off4_inb d)) (maxRow a) Finset.univ (View.stores_vmem_bits_univ h_S1x8x128 rfl) (.inl rfl))
  axSend d ⟨k0_dev27 d, k0_dev27_lt d⟩ 0
  axSend d ⟨k0_dev28 d, k0_dev28_lt d⟩ 1
  axSend d ⟨k0_dev29 d, k0_dev29_lt d⟩ 2
  axWaitS d 0
  axWaitS d 1
  axWaitS d 2
  axWaitR d 0
  axWaitR d 1
  axWaitR d 2
  Prog.lift (.load aM (Rect.unit (s := S4x8x128) ![0, 0, 0] S4x8x128.size inb_S4x8x128_S4x8x128_0_0_0).toLoadRect (View.loadsAt_vmem h_S4x8x128))

/-- Send a slot of the gathered array to the neighbour's same slot. -/
def agSend (r : Fin 4) (h : Fin 3) (j : Fin 8) (d : Dev nD) : ℙ PUnit :=
  Prog.lift (.enqueueDma (gAt (ghop r j d) (ghop_inb r j d)) (.remote (Dev.tc (dstN j d)) (gAt (ghop r j d) (ghop_inb r j d)) (.dma (agS h j))) (.dma (agR h j))
    (gAt_words _ _ (ghop_words r j d _)) (gAt_words _ _ (ghop_words r j d _)) ⟨⟨rfl, Or.inl rfl⟩, trivial⟩)

/-- Quantise tile `j` of the own rows and send it on its way. -/
def agFirst (d : Dev nD) (inv : F .f32) (j : Fin 8) (_ : PUnit) : ℙ PUnit := do
  let y ← loadS j
  let _ ← loadQ
  storeQ (k0_pay82 inv y)
  putG (gown j d) (gown_inb j d) (gown_words j d _)
  agSend 0 0 j d

/-- Read a slot back, multiply by the scale and write the block of the result. -/
def expand (scale : F .f32) (o : Fin 4 → Nat) (ho : ∀ a, o a + S1x1x1024x1024.size a ≤ S4x8x1024x1024.size a)
    (hw : (Rect.unit (s := S4x8x1024x1024) o S1x1x1024x1024.size ho).WholeWords (EltTy.packing .fp8e4m3))
    (o' : Fin 2 → Nat) (ho' : ∀ a, o' a + S1024x1024.size a ≤ S4096x8192.size a)
    (hw' : (Rect.unit (s := S4096x8192) o' S1024x1024.size ho').WholeWords (EltTy.packing .bf16)) : ℙ PUnit := do
  getG o ho hw
  let q ← loadQ
  let _ ← loadT
  storeT (k0_pay90 scale q)
  putO o' ho' hw'

def agOwn (d : Dev nD) (scale : F .f32) (j : Fin 8) (_ : PUnit) : ℙ PUnit :=
  expand scale (gown j d) (gown_inb j d) (gown_words j d _) (oown j d) (oown_inb j d) (oown_words j d _)

def agWaitR (d : Dev nD) (r : Fin 4) (h : Fin 3) (j : Fin 8) : ℙ PUnit :=
  Prog.lift (.waitDma2 (agR h j) (gAt (ghop r j d) (ghop_inb r j d)) (gAt (ghop r j d) (ghop_inb r j d))
    (gAt_words _ _ (ghop_words r j d _)) (gAt_words _ _ (ghop_words r j d _)))
def agWaitS (d : Dev nD) (r : Fin 4) (h : Fin 3) (j : Fin 8) (_ : PUnit) : ℙ PUnit :=
  Prog.lift (.waitDma2 (agS h j) (gAt (ghop r j d) (ghop_inb r j d)) (gAt (ghop r j d) (ghop_inb r j d))
    (gAt_words _ _ (ghop_words r j d _)) (gAt_words _ _ (ghop_words r j d _)))

/-- A middle step of the second ring: receive tile `j` of step `h`, pass it on, write it out. -/
def agMid (d : Dev nD) (scale : F .f32) (r : Fin 4) (h h' : Fin 3) (r' : Fin 4) (j : Fin 8) (_ : PUnit) : ℙ PUnit := do
  agWaitR d r h j
  agSend r' h' j d
  expand scale (ghop r' j d) (ghop_inb r' j d) (ghop_words r' j d _) (ohop h j d) (ohop_inb h j d) (ohop_words h j d _)

/-- A last step of the second ring. -/
def agLast (d : Dev nD) (scale : F .f32) (j : Fin 8) (_ : PUnit) : ℙ PUnit := do
  agWaitR d 2 2 j
  expand scale (ghop 3 j d) (ghop_inb 3 j d) (ghop_words 3 j d _) (ohop 2 j d) (ohop_inb 2 j d) (ohop_words 2 j d _)

/-- The body after the device has asked for its number. -/
def prog (d : Dev nD) : ℙ PUnit := do
  meet d
  loop (rsFirst d) tiles ⟨⟩
  loop (rsMid d 0 1) tiles ⟨⟩
  loop (rsMid d 1 2) tiles ⟨⟩
  let a ← loop (rsLast d) tiles (Scalar.ofBits .f32 0x00000000#32)
  let v ← exchange d a
  loop (agFirst d (k0_pay81 v)) tiles ⟨⟩
  loop (agOwn d (k0_pay80 v)) tiles ⟨⟩
  loop (agMid d (k0_pay80 v) 0 0 1 1) tiles ⟨⟩
  loop (agWaitS d 0 0) tiles ⟨⟩
  loop (agMid d (k0_pay80 v) 1 1 2 2) tiles ⟨⟩
  loop (agWaitS d 1 1) tiles ⟨⟩
  loop (agLast d (k0_pay80 v)) tiles ⟨⟩
  loop (agWaitS d 2 2) tiles ⟨⟩

/-- The printed body. -/
abbrev body : ℙ PUnit :=
  cc0_body xM (Memref.isWhole_whole _) wM (Memref.isWhole_whole _) oM (Memref.isWhole_whole _) cM (Memref.isWhole_whole _) gM (Memref.isWhole_whole _)
    sM (Memref.isWhole_whole _) tM (Memref.isWhole_whole _) qM (Memref.isWhole_whole _) aM (Memref.isWhole_whole _)
    cc0_scratch4 cc0_scratch5 cc0_scratch6 cc0_scratch7 cc0_scratch8 cc0_scratch9 cc0_scratch10

/-- Two programs with the same first operation and the same rest are the same. -/
theorem op_congr {α β : Type} {e e' : TpuEff nD τ sig (Elt F) Λ₀ .tc β} {c c' : β → ℙ α} (he : e = e') (hc : ∀ x, c x = c' x) :
    (Prog.op e c : ℙ α) = Prog.op e' c' := by
  rw [he, funext hc]

set_option maxRecDepth 65536 in
set_option maxHeartbeats 0 in
/-- The printed body is the program of loops. -/
theorem body_eq : body (F := F) = (Prog.op .deviceId fun d => prog d : ℙ PUnit) := by
  repeat (refine op_congr rfl fun _ => ?_)
  rfl

end Cert.RingMM

end
-- ==== Proof.Vals.lean ====
/-
What every buffer of the ring holds at every stage, as a function of the devices' operands.

`X d` and `W d` are device `d`'s blocks of the two operands. `SV h j d` is what device `d` holds in
its staging buffer of tile `j` after step `h` of the first ring, `AM d` its maximum over the finished
tiles, `GV c j` the quantised block `(c, j)` and `OV c j` the block `(c, j)` of the result.
-/
module

public import proofs.«01_k».proof.Proof.Loops

@[expose] public section

noncomputable section

namespace Cert.RingMM

open Cert.KernelIdeal Cert.KernelIdeal.Gen
open Idealize.ShloMosaic Idealize.SL.Sem

variable {F : FTy → Type} [FloatOps F]

/-! ## Places on the ring -/

/-- The neighbour tile `j` comes from. -/
def srcN (j : Fin 8) (d : Dev nD) : Dev nD := bif rt j then leftN d else rightN d

theorem src_dst (j : Fin 8) (d : Dev nD) : srcN j (dstN j d) = d := by revert j d; decide +kernel
theorem dst_src (j : Fin 8) (d : Dev nD) : dstN j (srcN j d) = d := by revert j d; decide +kernel

/-- The device that owns the finished block `(c, j)`. -/
def owner (j : Fin 8) (c : Fin 4) : Dev nD := ⟨(bif rt j then c.val + 3 else c.val + 1) % 4, Nat.mod_lt _ (by decide)⟩

theorem owner_chunk (j : Fin 8) (d : Dev nD) : owner j (chunk 0 j d) = d := by revert j d; decide +kernel
/-- What hop `h` moves is, at its receiver, one step further. -/
theorem chunk_step (h : Fin 3) (j : Fin 8) (d : Dev nD) : chunk h.castSucc j d = chunk h.succ j (dstN j d) := by
  revert h j d; decide +kernel
theorem chunk_src (h : Fin 3) (j : Fin 8) (d : Dev nD) : chunk h.castSucc j (srcN j d) = chunk h.succ j d := by
  revert h j d; decide +kernel
theorem chunk_inj (j : Fin 8) (d : Dev nD) : Function.Injective fun r => chunk r j d := by
  revert j d; decide +kernel

/-! ## Blocks -/

abbrev B : Type := Vec F S1024x1024 .bf16

/-- A row block of the operand. -/
def xB (o : Fin 2 → Nat) (ho : ∀ a, o a + S1024x1024.size a ≤ S4096x1024.size a) (x : Vec F S4096x1024 .bf16) : Vec F S1024x1024 .bf16 :=
  fun i => x ((Rect.unit (s := S4096x1024) o S1024x1024.size ho).emb i)
/-- A column tile of the weights. -/
def wB (j : Fin 8) (w : Vec F S1024x8192 .bf16) : Vec F S1024x1024 .bf16 :=
  fun i => w ((Rect.unit (s := S1024x8192) (wof j) S1024x1024.size (wof_inb j)).emb i)

/-- Places of a tile, without and with the leading axis of length one. -/
def sqE : S1024x1024.Idx ≃ S1x1024x1024.Idx := Shape.reshapeEquiv squeezes_S1x1024x1024_S1024x1024.numel_eq
/-- A tile stored with a leading axis, without it. -/
def sq {e : EltTy} (v : Vec F S1x1024x1024 e) : Vec F S1024x1024 e := fun i => v (sqE i)
def unsq {e : EltTy} (v : Vec F S1024x1024 e) : Vec F S1x1024x1024 e := fun i => v (sqE.symm i)

theorem unsq_sq {e : EltTy} (v : Vec F S1x1024x1024 e) : unsq (sq v) = v :=
  funext fun i => congrArg v (sqE.apply_symm_apply i)
theorem sq_unsq {e : EltTy} (v : Vec F S1024x1024 e) : sq (unsq v) = v :=
  funext fun i => congrArg v (sqE.symm_apply_apply i)

variable (X : Dev nD → Vec F S4096x1024 .bf16) (W : Dev nD → Vec F S1024x8192 .bf16)

/-! ## The first ring -/

/-- The local product that step `h` adds to tile `j`. -/
def PP (h : Fin 3) (j : Fin 8) (d : Dev nD) : FVec F S1024x1024 .f32 := part (xB (xin h j d) (xin_inb h j d) (X d)) (wB j (W d))

/-- What is sent at the first hop, -/
def SV0 (j : Fin 8) (d : Dev nD) : Vec F S1024x1024 .bf16 := sq (first (xB (k0_off1 d) (k0_off1_inb d) (X d)) (wB j (W d)))
/-- at the second, -/
def SV1 (j : Fin 8) (d : Dev nD) : Vec F S1024x1024 .bf16 := sq (accum (PP X W 0 j d) (SV0 X W j (srcN j d)))
/-- and at the third. -/
def SV2 (j : Fin 8) (d : Dev nD) : Vec F S1024x1024 .bf16 := sq (accum (PP X W 1 j d) (SV1 X W j (srcN j d)))
/-- What is sent at hop `h`. -/
def SV (h : Fin 3) : (j : Fin 8) → (d : Dev nD) → Vec F S1024x1024 .bf16 :=
  match h with | 0 => SV0 X W | 1 => SV1 X W | 2 => SV2 X W

/-- The finished tile. -/
def FV (j : Fin 8) (d : Dev nD) : Vec F S1024x1024 .bf16 := sq (final (PP X W 2 j d) (SV X W 2 j (srcN j d)))

/-- The maximum over the finished tiles, taken in the order `l`. -/
def amx (d : Dev nD) (l : List (Fin 8)) (a : F .f32) : F .f32 :=
  l.foldl (fun a j => maxUp a (PP X W 2 j d) (SV X W 2 j (srcN j d))) a
def AM (d : Dev nD) : F .f32 := amx X W d tiles (Scalar.ofBits .f32 0x00000000#32)

/-- The maxima of the four devices, a row each. -/
def AV : Vec F S4x8x128 .f32 := fun i => AM X W ⟨(i 0).val, (i 0).isLt⟩

/-! ## The second ring -/

def GV (c : Fin 4) (j : Fin 8) : Vec F S1024x1024 .fp8e4m3 :=
  k0_pay82 (k0_pay81 (AV X W)) (unsq (FV X W j (owner j c)))
def OV (c : Fin 4) (j : Fin 8) : Vec F S1024x1024 .bf16 := k0_pay90 (k0_pay80 (AV X W)) (GV X W c j)

/-- The whole result, block by block. -/
def OUT : Vec F S4096x8192 .bf16 := fun i =>
  OV X W ⟨(i 0).val / 1024, Nat.div_lt_of_lt_mul (i 0).isLt⟩ ⟨(i 1).val / 1024, Nat.div_lt_of_lt_mul (i 1).isLt⟩
    (Shape.pair ⟨(i 0).val % 1024, Nat.mod_lt _ (by decide)⟩ ⟨(i 1).val % 1024, Nat.mod_lt _ (by decide)⟩)

end Cert.RingMM

end
-- ==== Proof.Arith.lean ====
/-
Facts about extended reals that have nothing to do with the ring: the quantiser, the four-term sum,
a maximum over a set, and one contraction cut into four.
-/
module

public import Idealize.ShloMosaic.PureOps.Ideal.Laws
public import Idealize.ShloMosaic.Lib.ValueIdx
public import Idealize.ShloMosaic.Lib.IdealHost

@[expose] public section

noncomputable section

namespace Cert.RingMM

open Idealize.ShloMosaic

/-! ## Constants -/

/-- The word of 448. -/
theorem word_448 : Ideal.ofBits .f32 0x43E00000#32 = ((448 : ℝ) : EReal) := by
  simp [Ideal.ofBits, Ideal.ieee, -EReal.coe_mul]; norm_num
/-- The word of −∞. -/
theorem word_bot : Ideal.ofBits .f32 0xFF800000#32 = ⊥ := by
  simp [Ideal.ofBits, Ideal.ieee]
/-- The word of 1e-30 is some positive real. -/
theorem word_tiny : ∃ ε : ℝ, 0 < ε ∧ Ideal.ofBits .f32 0x0DA24260#32 = (ε : EReal) := by
  refine ⟨_, ?_, by simp [Ideal.ofBits, Ideal.ieee, -EReal.coe_mul]; rfl⟩
  positivity

/-! ## Quantise and dequantise -/

/-- The scaled, clamped and rescaled value: the rounding is the identity on extended reals, so it is the
value itself, unless the greatest value is infinite, when the scale is, and every quotient is zero. -/
def back (A y : EReal) : EReal := if A = ⊤ then 0 else y

theorem real_max (a b : ℝ) : ((max a b : ℝ) : EReal) = max (a : EReal) b := EReal.coe_strictMono.monotone.map_max
theorem real_min (a b : ℝ) : ((min a b : ℝ) : EReal) = min (a : EReal) b := EReal.coe_strictMono.monotone.map_min

theorem back_real {A y : ℝ} : back (A : EReal) (y : EReal) = (y : EReal) := if_neg (EReal.coe_ne_top A)

/-- Two numbers below a finite bound are real. -/
theorem real_of_le {A y : EReal} (h0 : 0 ≤ y) (hA : y ≤ A) (hT : A ≠ ⊤) : ∃ a b : ℝ, A = (a : EReal) ∧ y = (b : EReal) ∧ 0 ≤ b ∧ b ≤ a := by
  have hA0 : 0 ≤ A := h0.trans hA
  have hAb : A ≠ ⊥ := fun h => by rw [h] at hA0; exact absurd hA0 (by simp)
  have hyb : y ≠ ⊥ := fun h => by rw [h] at h0; exact absurd h0 (by simp)
  have hyT : y ≠ ⊤ := fun h => hT (top_le_iff.mp (h ▸ hA))
  lift A to ℝ using ⟨hT, hAb⟩
  lift y to ℝ using ⟨hyT, hyb⟩
  exact ⟨A, y, rfl, rfl, by exact_mod_cast h0, by exact_mod_cast hA⟩

/-- By a scale and its reciprocal, the scale kept off zero by a small bound. -/
theorem back_of_recip {A y : EReal} {ε : ℝ} (hε : 0 < ε) (h0 : 0 ≤ y) (hA : y ≤ A) :
    min (y * Ideal.div ((448 : ℝ) : EReal) (max A ε)) ((448 : ℝ) : EReal) * Ideal.div (max A ε) ((448 : ℝ) : EReal) = back A y := by
  have h448 : ((448 : ℝ) : EReal) ≠ 0 := by norm_num
  have hM : max A (ε : EReal) ≠ 0 := (lt_of_lt_of_le (by exact_mod_cast hε) (le_max_right _ _)).ne'
  unfold Ideal.div
  rw [if_neg h448, if_neg hM]
  by_cases hT : A = ⊤
  · subst hT
    rw [back, if_pos rfl, max_eq_left le_top, EReal.inv_top, mul_zero, mul_zero]
    rw [min_eq_left (by norm_num), zero_mul]
  · obtain ⟨a, b, rfl, rfl, hb, hba⟩ := real_of_le h0 hA hT
    rw [back_real, ← real_max]
    have hm : 0 < max a ε := lt_of_lt_of_le hε (le_max_right _ _)
    have hbm : b ≤ max a ε := hba.trans (le_max_left _ _)
    generalize max a ε = M at hm hbm
    rw [← EReal.coe_inv, ← EReal.coe_inv, ← EReal.coe_mul, ← EReal.coe_mul, ← EReal.coe_mul, ← real_min, ← EReal.coe_mul]
    refine congrArg _ ?_
    rw [min_eq_left]
    · field_simp
    · rw [show b * (448 * M⁻¹) = 448 * (b / M) by ring]
      have : b / M ≤ 1 := (div_le_one hm).mpr hbm
      linarith

/-- By a quotient. -/
theorem back_of_quot {A y : EReal} (h0 : 0 ≤ y) (hA : y ≤ A) :
    min (Ideal.div y (Ideal.div A ((448 : ℝ) : EReal))) ((448 : ℝ) : EReal) * Ideal.div A ((448 : ℝ) : EReal) = back A y := by
  have h448 : ((448 : ℝ) : EReal) ≠ 0 := by norm_num
  rw [show Ideal.div A ((448 : ℝ) : EReal) = A * ((448 : ℝ) : EReal)⁻¹ from if_neg h448]
  by_cases hT : A = ⊤
  · subst hT
    have ht : (⊤ : EReal) * ((448 : ℝ) : EReal)⁻¹ = ⊤ := by
      rw [← EReal.coe_inv]; exact EReal.top_mul_coe_of_pos (by norm_num)
    rw [back, if_pos rfl, ht, Ideal.div, if_neg EReal.top_ne_zero, EReal.inv_top, mul_zero, min_eq_left (by norm_num), zero_mul]
  · obtain ⟨a, b, rfl, rfl, hb, hba⟩ := real_of_le h0 hA hT
    rw [back_real, ← EReal.coe_inv, ← EReal.coe_mul]
    rcases eq_or_lt_of_le (hb.trans hba) with h | h
    · have hb0 : b = 0 := le_antisymm (h ▸ hba) hb
      rw [← h, hb0, zero_mul, EReal.coe_zero, mul_zero]
    · have hs : a * (448 : ℝ)⁻¹ ≠ 0 := by positivity
      rw [Ideal.div, if_neg (by exact_mod_cast hs), ← EReal.coe_inv, ← EReal.coe_mul, ← real_min, ← EReal.coe_mul]
      refine congrArg _ ?_
      rw [min_eq_left]
      · field_simp
      · rw [show b * (a * 448⁻¹)⁻¹ = 448 * (b / a) by rw [mul_inv, inv_inv]; ring]
        have : b / a ≤ 1 := (div_le_one h).mpr hba
        linarith

/-! ## A maximum over a set -/

/-- What a fold of maxima is below. -/
theorem fold_max_le {ι : Type} (s : Finset ι) (f : ι → EReal) (a z : EReal) :
    s.fold max a f ≤ z ↔ a ≤ z ∧ ∀ i ∈ s, f i ≤ z := Finset.fold_max_le z

/-- A maximum over all of a vector is below what every entry is below. -/
theorem multi_max_le {φ : FTy} {s t : Shape} {axes : List (Fin s.rank)} (src : FVec Ideal s φ) (acc : BitVec φ.bits) (h : s.Reduces axes t)
    (ht : ∀ b, t.size b = 1) (hφ : FKind.Formats φ) (hacc : acc = FKind.maximumf.neutral φ hφ) (j : t.Idx) (z : EReal) :
    multiReduction (F := Ideal) .maximumf axes t src acc h hφ hacc j ≤ z ↔ Ideal.ofBits φ acc ≤ z ∧ ∀ i, src i ≤ z := by
  rw [multiReduction_maximumf_eq_fold, Finset.filter_true_of_mem fun i _ => funext fun b => Fin.ext (by
    have := (h.drop i b).isLt; have := (j b).isLt; have := ht b; omega)]
  refine (fold_max_le _ _ _ _).trans (and_congr_right fun _ => ?_)
  simp only [Finset.mem_univ, true_imp_iff]

/-- The host's likewise. -/
theorem host_max_le {s t u : Shape} {axes : List (Fin s.rank)} (x : s.Idx → EReal) (init : u.Idx → EReal) (h : s.ReducesTo axes t)
    (ht : ∀ b, t.size b = 1) (hu : 0 < u.numel) (j : t.Idx) (z : EReal) :
    Host.reduce (FloatOps.maximumf (F := Ideal) (φ := .f32)) x init h hu j ≤ z ↔ init (Shape.Idx.first hu) ≤ z ∧ ∀ i, x i ≤ z := by
  rw [Host.reduce_eq_fold, Finset.filter_true_of_mem fun i _ => funext fun b => Fin.ext (by
    have := (h.drop i b).isLt; have := (j b).isLt; have := ht b; omega)]
  refine (fold_max_le _ _ _ _).trans (and_congr_right fun _ => ?_)
  simp only [Finset.mem_univ, true_imp_iff]

/-! ## A contraction cut into four -/

/-- The sum over 4096 as four sums over 1024. -/
theorem sum_cut (f : Fin 4096 → EReal) :
    ∑ k : Fin 4096, f k = ∑ d : Fin 4, ∑ k : Fin 1024, f ⟨1024 * d.val + k.val, by omega⟩ := by
  rw [← Equiv.sum_comp (finProdFinEquiv (m := 4) (n := 1024)) (fun k : Fin (4 * 1024) => f k), Fintype.sum_prod_type]
  refine Finset.sum_congr rfl fun d _ => Finset.sum_congr rfl fun k _ => congrArg f (Fin.ext ?_)
  show k.val + 1024 * d.val = 1024 * d.val + k.val
  omega

end Cert.RingMM

end
-- ==== Proof.Sums.lean ====
/-
What the ring holds over the extended reals: the sums it passes on, the finished tiles, and the
blocks of the result, by their places in the whole arrays.
-/
module

public import proofs.«01_k».proof.Proof.Vals
public import proofs.«01_k».proof.Proof.Arith
public import Idealize.ShloMosaic.Lib.MatmulPlain
public import Idealize.ShloMosaic.Lib.Pipeline.Value
public import Idealize.ShloMosaic.Lib.Layout

@[expose] public section

noncomputable section

namespace Cert.RingMM

open Cert.KernelIdeal Cert.KernelIdeal.Gen
open Idealize.ShloMosaic Idealize.ShloMosaic.ValueIdx

/-- The whole operands. -/
abbrev TX : Shape := ⟨2, ![4096, 4096]⟩
abbrev TW : Shape := ⟨2, ![4096, 8192]⟩

variable (x : TX.Idx → EReal) (w : TW.Idx → EReal)

/-- Device `d`'s columns of the first operand, -/
def Xd (d : Dev nD) : Vec Ideal S4096x1024 .bf16 := Layout.block ⟨2, ![4096, 1024]⟩ TX 1 4 d x
/-- and rows of the second. -/
def Wd (d : Dev nD) : Vec Ideal S1024x8192 .bf16 := Layout.block ⟨2, ![1024, 8192]⟩ TW 0 4 d w

/-- Device `d`'s share of an entry of the product. -/
def D (d : Fin 4) (r : Fin 4096) (c : Fin 8192) : EReal :=
  ∑ k : Fin 1024, x (ix2 r ⟨1024 * d.val + k.val, by omega⟩) * w (ix2 ⟨1024 * d.val + k.val, by omega⟩ c)

/-- Entry `(r, c)` of the product. -/
def Z (r : Fin 4096) (c : Fin 8192) : EReal := ∑ k : Fin 4096, x (ix2 r k) * w (ix2 k c)

/-- It is the sum of the four shares. -/
theorem Z_eq (r : Fin 4096) (c : Fin 8192) : Z x w r c = ∑ d : Fin 4, D x w d r c :=
  sum_cut fun k => x (ix2 r k) * w (ix2 k c)

/-- Place `r` of block `b` of 1024. -/
def at4 (b : Fin 4) (r : Fin 1024) : Fin 4096 := ⟨1024 * b.val + r.val, by omega⟩
def at8 (b : Fin 8) (r : Fin 1024) : Fin 8192 := ⟨1024 * b.val + r.val, by omega⟩

/-! ## The local products -/

theorem dots_plain : dot_S1024x1024_S1024x1024_S1024x1024_1_0_0_1_n_n = DotDims.plain 1024 1024 1024 := rfl

theorem part_apply (a b : Vec Ideal S1024x1024 .bf16) (r c : Fin 1024) :
    part a b (ix2 r c) = ∑ k : Fin 1024, a (ix2 r k) * b (ix2 k c) := by
  unfold part k0_pay10
  rw [shapeCast_self, shapeCast_self, dots_plain]
  refine (Ideal.matmul_plain_apply none a b _ r c).trans ?_
  rw [constant_apply, Ideal.ofBits_zero_f32, zero_add]

/-- The product of row block `b` of device `d`'s operand and its column tile `j`. -/
theorem part_block (o : Fin 2 → Nat) (ho : ∀ a, o a + S1024x1024.size a ≤ S4096x1024.size a) (b : Fin 4) (hb : o = ![1024 * b.val, 0])
    (j : Fin 8) (d : Dev nD) (r c : Fin 1024) :
    part (xB o ho (Xd x d)) (wB j (Wd w d)) (ix2 r c) = D x w d (at4 b r) (at8 j c) := by
  subst hb
  rw [part_apply]
  refine Finset.sum_congr rfl fun k _ => ?_
  refine congrArg₂ (· * ·) (congrArg x ?_) (congrArg w ?_)
  · funext a; apply Fin.ext
    match a with
    | ⟨0, _⟩ => show 1024 * b.val + 1 * r.val = 1024 * b.val + r.val; omega
    | ⟨1, _⟩ => show d.val * 1024 + (0 + 1 * k.val) = 1024 * d.val + k.val; omega
  · funext a; apply Fin.ext
    match a with
    | ⟨0, _⟩ => show d.val * 1024 + (0 + 1 * k.val) = 1024 * d.val + k.val; omega
    | ⟨1, _⟩ => show 1024 * j.val + 1 * c.val = 1024 * j.val + c.val; omega

/-- The row block that step `h` multiplies. -/
def rb (h : Fin 3) (j : Fin 8) (d : Dev nD) : Fin 4 :=
  ⟨(bif rt j then d.val + 7 - h.val else d.val + h.val + 1) % 4, Nat.mod_lt _ (by decide)⟩

theorem xin_rb (h : Fin 3) (j : Fin 8) (d : Dev nD) : xin h j d = ![1024 * (rb h j d).val, 0] := by
  revert h j d; decide +kernel
theorem rb_first (j : Fin 8) (d : Dev nD) : rb 0 j d = (srcN j d : Fin 4) := by revert j d; decide +kernel
theorem rb_step (j : Fin 8) (d : Dev nD) : rb 1 j d = rb 0 j (srcN j d) := by revert j d; decide +kernel
theorem rb_step' (j : Fin 8) (d : Dev nD) : rb 2 j d = rb 1 j (srcN j d) := by revert j d; decide +kernel
theorem rb_last (j : Fin 8) (d : Dev nD) : rb 2 j d = chunk 0 j d := by revert j d; decide +kernel

theorem PP_apply (h : Fin 3) (j : Fin 8) (d : Dev nD) (r c : Fin 1024) :
    PP (Xd x) (Wd w) h j d (ix2 r c) = D x w d (at4 (rb h j d) r) (at8 j c) :=
  part_block x w _ _ _ (xin_rb h j d) j d r c

/-! ## The sums passed on -/

/-- The leading axis put on and taken off again. -/
theorem sq_cast {e : EltTy} (v : Vec Ideal S1024x1024 e) (h) : sq (shapeCast S1x1024x1024 v h) = v := by
  funext i
  show v (Shape.reshapeEquiv _ (Shape.reshapeEquiv _ i)) = v i
  rw [Shape.reshapeEquiv_reshapeEquiv, Shape.reshapeEquiv_self]
theorem cast_unsq {e : EltTy} (v : Vec Ideal S1024x1024 e) (h) : shapeCast S1024x1024 (unsq v) h = v := by
  have e1 : unsq v = shapeCast S1x1024x1024 v shapeCasts_S1024x1024_S1x1024x1024 := by
    rw [← unsq_sq (shapeCast S1x1024x1024 v shapeCasts_S1024x1024_S1x1024x1024), sq_cast]
  rw [e1, shapeCast_shapeCast]

theorem first_apply (a b : Vec Ideal S1024x1024 .bf16) (i) : (sq (e := .bf16) (first a b) i : EReal) = part a b i :=
  congrFun (sq_cast (e := .bf16) (truncf .bf16 (part a b) bitsLt_bf16_f32) shapeCasts_S1024x1024_S1x1024x1024) i
theorem accum_apply (p : FVec Ideal S1024x1024 .f32) (t : Vec Ideal S1024x1024 .bf16) (i) : (sq (e := .bf16) (accum p t) i : EReal) = t i + p i := by
  unfold accum k0_pay11
  exact congrFun (sq_cast (e := .bf16) _ _) i
theorem relu_apply (p : FVec Ideal S1024x1024 .f32) (t : Vec Ideal S1024x1024 .bf16) (i)  : (relu p t i : EReal) = max (t i + p i) 0 := by
  show max (t i + p i) (Ideal.ofBits .f32 0x00000000#32) = _
  rw [Ideal.ofBits_zero_f32]
theorem final_apply (p : FVec Ideal S1024x1024 .f32) (t : Vec Ideal S1024x1024 .bf16) (i) : (sq (e := .bf16) (final p t) i : EReal) = relu p t i :=
  congrFun (sq_cast (e := .bf16) (truncf .bf16 (relu p t) bitsLt_bf16_f32) shapeCasts_S1024x1024_S1x1024x1024) i

theorem SV0_apply (j : Fin 8) (d : Dev nD) (r c : Fin 1024) :
    SV0 (Xd x) (Wd w) j d (ix2 r c) = D x w d (at4 d r) (at8 j c) := by
  unfold SV0
  rw [first_apply]
  exact part_block x w _ _ d (k0_off1_eq d) j d r c

theorem SV1_apply (j : Fin 8) (d : Dev nD) (r c : Fin 1024) :
    SV1 (Xd x) (Wd w) j d (ix2 r c) = D x w (srcN j d) (at4 (rb 0 j d) r) (at8 j c) + D x w d (at4 (rb 0 j d) r) (at8 j c) := by
  unfold SV1
  rw [accum_apply, SV0_apply, PP_apply, rb_first]

theorem SV2_apply (j : Fin 8) (d : Dev nD) (r c : Fin 1024) :
    SV2 (Xd x) (Wd w) j d (ix2 r c) = D x w (srcN j (srcN j d)) (at4 (rb 1 j d) r) (at8 j c)
      + D x w (srcN j d) (at4 (rb 1 j d) r) (at8 j c) + D x w d (at4 (rb 1 j d) r) (at8 j c) := by
  unfold SV2
  rw [accum_apply, SV1_apply, PP_apply, rb_step]

/-- The ring comes by every device once. -/
theorem four_devs (f : Fin 4 → EReal) (j : Fin 8) (d : Dev nD) :
    f (srcN j (srcN j (srcN j d))) + f (srcN j (srcN j d)) + f (srcN j d) + f d = ∑ e : Fin 4, f e := by
  have hu : (Finset.univ : Finset (Fin 4)) = {srcN j (srcN j (srcN j d)), srcN j (srcN j d), srcN j d, d} := by
    revert j d; decide +kernel
  have hn : (srcN j (srcN j (srcN j d)) : Fin 4) ∉ ({srcN j (srcN j d), srcN j d, d} : Finset (Fin 4))
      ∧ (srcN j (srcN j d) : Fin 4) ∉ ({srcN j d, d} : Finset (Fin 4)) ∧ (srcN j d : Fin 4) ∉ ({d} : Finset (Fin 4)) := by
    revert j d; decide +kernel
  rw [hu, Finset.sum_insert hn.1, Finset.sum_insert hn.2.1, Finset.sum_insert hn.2.2, Finset.sum_singleton]
  ac_rfl

/-- Entry `(r, c)` of the product, clamped below at zero. -/
def Y (r : Fin 4096) (c : Fin 8192) : EReal := max (Z x w r c) 0

theorem relu_tile (j : Fin 8) (d : Dev nD) (r c : Fin 1024) :
    relu (PP (Xd x) (Wd w) 2 j d) (SV (Xd x) (Wd w) 2 j (srcN j d)) (ix2 r c) = Y x w (at4 (chunk 0 j d) r) (at8 j c) := by
  rw [relu_apply, PP_apply]
  show max (SV2 (Xd x) (Wd w) j (srcN j d) (ix2 r c) + _) 0 = _
  rw [SV2_apply, ← rb_step', four_devs (fun e => D x w e (at4 (rb 2 j d) r) (at8 j c)) j d, ← Z_eq, rb_last]
  rfl

/-- The finished tile is its tile of the clamped product. -/
theorem FV_apply (j : Fin 8) (d : Dev nD) (r c : Fin 1024) :
    FV (Xd x) (Wd w) j d (ix2 r c) = Y x w (at4 (chunk 0 j d) r) (at8 j c) := by
  unfold FV
  rw [final_apply, relu_tile]

end Cert.RingMM

end
-- ==== Proof.Top.lean ====
/-
The kernel's result over the extended reals: its greatest entry, the scale, and every entry of what
it leaves.
-/
module

public import proofs.«01_k».proof.Proof.Sums

@[expose] public section

noncomputable section

namespace Cert.RingMM

open Cert.KernelIdeal Cert.KernelIdeal.Gen
open Idealize.ShloMosaic Idealize.ShloMosaic.ValueIdx

variable (x : TX.Idx → EReal) (w : TW.Idx → EReal)

/-! ## The maximum -/

/-- The greatest entry of the clamped product. -/
def A : EReal := ⨆ r, ⨆ c, Y x w r c

theorem A_le (z : EReal) : A x w ≤ z ↔ ∀ r c, Y x w r c ≤ z := by
  unfold A
  simp only [iSup_le_iff]

theorem Y_nonneg (r : Fin 4096) (c : Fin 8192) : 0 ≤ Y x w r c := le_max_right _ _
theorem Y_le_A (r : Fin 4096) (c : Fin 8192) : Y x w r c ≤ A x w := (A_le x w _).mp le_rfl r c

/-- A bound on a recast vector is one on the vector. -/
theorem cast_le {s t : Shape} (v : s.Idx → EReal) (h : s.ShapeCasts t) (z : EReal) :
    (∀ i, shapeCast t v h i ≤ z) ↔ ∀ i, v i ≤ z :=
  Equiv.forall_congr_right (q := fun i => v i ≤ z) (Shape.reshapeEquiv h)

theorem scalar_max (a b : EReal) : (Scalar.maximumf (F := Ideal) (φ := .f32) a b : EReal) = max a b := rfl
theorem scalar_div (a b : EReal) : (Scalar.divf (F := Ideal) (φ := .f32) a b : EReal) = Ideal.div a b := rfl

/-- The one entry of a vector, through a recast. -/
theorem extract_cast {s t : Shape} (v : s.Idx → EReal) (h : s.ShapeCasts t) (p : Fin t.rank → Nat) (hp : ∀ a, p a < t.size a) :
    ∃ k, extractAt p (shapeCast t v h) hp = v k := ⟨_, rfl⟩

/-- The running maximum is the old one or an entry of the reduced tile. -/
theorem maxUp_eq (a : EReal) (p : FVec Ideal S1024x1024 .f32) (t : Vec Ideal S1024x1024 .bf16) :
    ∃ k, (maxUp (F := Ideal) a p t : EReal) = max a (multiReduction (F := Ideal) (φ := .f32) .maximumf [1, 2] S1
      (shapeCast S1x1024x1024 (relu p t) shapeCasts_S1024x1024_S1x1024x1024) 0xFF800000#32 reduces_S1x1024x1024_S1 (.inl rfl) rfl k) := by
  obtain ⟨k, hk⟩ := extract_cast (multiReduction (F := Ideal) (φ := .f32) .maximumf [1, 2] S1
      (shapeCast S1x1024x1024 (relu p t) shapeCasts_S1024x1024_S1x1024x1024) 0xFF800000#32 reduces_S1x1024x1024_S1 (.inl rfl) rfl)
    shapeCasts_S1_S1x1x1 ![0, 0, 0] inpos_S1x1x1_p0_0_0
  refine ⟨k, ?_⟩
  rw [← hk]
  unfold maxUp k0_pay56 relu
  exact scalar_max _ _

theorem S1_size (b : Fin S1.rank) : S1.size b = 1 := by revert b; decide

theorem maxUp_le (a : EReal) (p : FVec Ideal S1024x1024 .f32) (t : Vec Ideal S1024x1024 .bf16) (z : EReal) :
    (maxUp (F := Ideal) a p t : EReal) ≤ z ↔ a ≤ z ∧ ∀ i, (relu p t i : EReal) ≤ z := by
  obtain ⟨k, hk⟩ := maxUp_eq a p t
  rw [hk, max_le_iff]
  refine and_congr_right fun _ => (multi_max_le _ _ _ S1_size _ _ k z).trans ?_
  rw [word_bot]
  exact (and_iff_right bot_le).trans (cast_le _ _ z)

theorem amx_le (d : Dev nD) (l : List (Fin 8)) (a z : EReal) :
    (amx (Xd x) (Wd w) d l a : EReal) ≤ z ↔ a ≤ z ∧ ∀ j ∈ l, ∀ r c, Y x w (at4 (chunk 0 j d) r) (at8 j c) ≤ z := by
  induction l generalizing a with
  | nil => simp [amx]
  | cons j l ih =>
    refine (ih _).trans ?_
    rw [maxUp_le, List.forall_mem_cons, and_assoc]
    refine and_congr_right fun _ => and_congr_left fun _ => ⟨fun h r c => ?_, fun h i => ?_⟩
    · rw [← relu_tile]; exact h _
    · obtain ⟨r, c, rfl⟩ : ∃ r c : Fin 1024, i = ix2 r c := ⟨i 0, i 1, eq_ix2 i⟩
      exact (relu_tile x w j d r c).trans_le (h r c)

theorem owner_chunk' (j : Fin 8) (c : Fin 4) : chunk 0 j (owner j c) = c := by revert j c; decide +kernel
theorem mem_tiles (j : Fin 8) : j ∈ tiles := by revert j; decide +kernel

/-- Every entry lies in a block. -/
theorem block_of (r : Fin 4096) : at4 ⟨r.val / 1024, by omega⟩ ⟨r.val % 1024, Nat.mod_lt _ (by decide)⟩ = r :=
  Fin.ext (Nat.div_add_mod _ _)
theorem block_of' (c : Fin 8192) : at8 ⟨c.val / 1024, by omega⟩ ⟨c.val % 1024, Nat.mod_lt _ (by decide)⟩ = c :=
  Fin.ext (Nat.div_add_mod _ _)

/-- The devices' maxima are together below what every entry is below. -/
theorem AM_le (z : EReal) : (∀ d : Dev nD, (AM (Xd x) (Wd w) d : EReal) ≤ z) ↔ A x w ≤ z := by
  rw [A_le]
  constructor
  · intro h r c
    have := ((amx_le x w (owner ⟨c.val / 1024, by omega⟩ ⟨r.val / 1024, by omega⟩) tiles _ z).mp (h _)).2
      ⟨c.val / 1024, by omega⟩ (mem_tiles _)
      ⟨r.val % 1024, Nat.mod_lt _ (by decide)⟩ ⟨c.val % 1024, Nat.mod_lt _ (by decide)⟩
    rwa [owner_chunk', block_of, block_of'] at this
  · intro h d
    refine (amx_le x w d tiles _ z).mpr ⟨?_, fun j _ r c => h _ _⟩
    refine le_trans (le_of_eq ?_) ((Y_nonneg x w 0 0).trans (h 0 0))
    exact Ideal.ofBits_zero_f32

theorem pay79_eq (v : Vec Ideal S4x8x128 .f32) :
    ∃ k, (k0_pay79 (F := Ideal) v : EReal) = max (multiReduction (F := Ideal) (φ := .f32) .maximumf [1, 2, 3] S1
      (shapeCast S1x4x8x128 v shapeCasts_S4x8x128_S1x4x8x128) 0xFF800000#32 reduces_S1x4x8x128_S1 (.inl rfl) rfl k)
      (Ideal.ofBits .f32 0x0DA24260#32) := by
  obtain ⟨k, hk⟩ := extract_cast (multiReduction (F := Ideal) (φ := .f32) .maximumf [1, 2, 3] S1
      (shapeCast S1x4x8x128 v shapeCasts_S4x8x128_S1x4x8x128) 0xFF800000#32 reduces_S1x4x8x128_S1 (.inl rfl) rfl)
    shapeCasts_S1_S1x1x1x1 ![0, 0, 0, 0] inpos_S1x1x1x1_p0_0_0_0
  refine ⟨k, ?_⟩
  rw [← hk]
  unfold k0_pay79
  exact scalar_max _ _

/-- The maximum over the devices' rows, kept off zero. -/
theorem scale_eq : (k0_pay79 (AV (Xd x) (Wd w)) : EReal) = max (A x w) (Ideal.ofBits .f32 0x0DA24260#32) := by
  obtain ⟨k, hk⟩ := pay79_eq (AV (Xd x) (Wd w))
  rw [hk]
  refine congrArg (max · (Ideal.ofBits .f32 0x0DA24260#32)) (eq_of_forall_ge_iff fun z => ?_)
  refine (multi_max_le _ _ _ S1_size _ _ k z).trans ?_
  rw [word_bot, ← AM_le]
  refine (and_iff_right bot_le).trans ((cast_le _ _ z).trans ⟨fun h d => ?_, fun h i => h _⟩)
  exact h (ix3 (n0 := 4) d (0 : Fin 8) (0 : Fin 128))

/-! ## The result -/

theorem pay82_apply (s : EReal) (v : Vec Ideal S1x1024x1024 .bf16) (i) :
    (k0_pay82 (F := Ideal) s v i : EReal)
      = min (shapeCast S1024x1024 v shapeCasts_S1x1024x1024_S1024x1024 i * s) (Ideal.ofBits .f32 0x43E00000#32) := by
  unfold k0_pay82
  exact congrFun (shapeCast_self _ _) i
theorem pay90_apply (s : EReal) (v : Vec Ideal S1024x1024 .fp8e4m3) (i) :
    (k0_pay90 (F := Ideal) s v i : EReal) = v i * s := by
  unfold k0_pay90
  exact congrFun (shapeCast_self _ _) i

theorem OV_apply (b : Fin 4) (j : Fin 8) (r c : Fin 1024) :
    (OV (Xd x) (Wd w) b j (ix2 r c) : EReal) = back (A x w) (Y x w (at4 b r) (at8 j c)) := by
  have e80 : (k0_pay80 (AV (Xd x) (Wd w)) : EReal) = Ideal.div (k0_pay79 (AV (Xd x) (Wd w))) (Ideal.ofBits .f32 0x43E00000#32) := by
    unfold k0_pay80
    exact scalar_div _ _
  have e81 : (k0_pay81 (AV (Xd x) (Wd w)) : EReal) = Ideal.div (Ideal.ofBits .f32 0x43E00000#32) (k0_pay79 (AV (Xd x) (Wd w))) := by
    unfold k0_pay81
    exact scalar_div _ _
  obtain ⟨ε, hε, he⟩ := word_tiny
  unfold OV GV
  rw [pay90_apply, pay82_apply, cast_unsq, FV_apply, owner_chunk', e80, e81, scale_eq, he, word_448]
  exact back_of_recip hε (Y_nonneg x w _ _) (Y_le_A x w _ _)

/-- What the ring leaves on every device, from the whole operands. -/
theorem OUT_apply (r : Fin 4096) (c : Fin 8192) :
    (OUT (Xd x) (Wd w) (ix2 r c) : EReal) = back (A x w) (Y x w r c) := by
  have := OV_apply x w ⟨r.val / 1024, by omega⟩ ⟨c.val / 1024, by omega⟩
    ⟨r.val % 1024, Nat.mod_lt _ (by decide)⟩ ⟨c.val % 1024, Nat.mod_lt _ (by decide)⟩
  rw [block_of, block_of'] at this
  rw [← this]
  refine congrArg (OV (Xd x) (Wd w) _ _) (funext fun a => ?_)
  match a with
  | ⟨0, _⟩ => rfl
  | ⟨1, _⟩ => rfl

end Cert.RingMM

end
-- ==== Proof.Ref.lean ====
/-
What the reference leaves: its product clamped below at zero, that array's greatest entry, and every
entry divided, capped and multiplied back.
-/
module

public import proofs.«01_k».proof.Proof.Top
public import proofs.«01_k».proof.Proof.Gen.ReferenceIdeal.Value
public import Idealize.ShloMosaic.Lib.StackMember
public import Idealize.ShloMosaic.Lib.IdealHost
public import Idealize.ShloMosaic.Lib.StableHlo.Run

@[expose] public section

noncomputable section

namespace Cert.RefMM

open Cert.ReferenceIdeal Cert.ReferenceIdeal.Gen Cert.RingMM
open Idealize.ShloMosaic Idealize.ShloMosaic.TcCoe Idealize.ShloMosaic.ValueIdx
open Idealize.ShloMosaic.Pipeline (Dat)

section
variable {F : FTy → Type} [FloatOps F]

/-- The clamped product, as the reference computes it, -/
def prod (x : FVec F S4096x4096 .bf16) (w : FVec F S4096x8192 .bf16) : FVec F S4096x8192 .f32 :=
  maximumf (Host.dotGeneral dot_S4096x4096_S4096x8192_S4096x8192_1_0_0_1_n_n none (extf .f32 x bitsLt_bf16_f32) (extf .f32 w bitsLt_bf16_f32))
    (broadcastInDim S4096x8192 ![] bcast_S_S4096x8192 (constant S_ .f32 0x00000000#32))
/-- its greatest entry, -/
def most (y : FVec F S4096x8192 .f32) : FVec F S_ .f32 :=
  Host.reduce FloatOps.maximumf (Host.absf y) (constant S_ .f32 0xFF800000#32) reducesTo_S4096x8192_S_d0_1 h_S_
/-- and the scale. -/
def scale (y : FVec F S4096x8192 .f32) : FVec F S1x1 .f32 :=
  shapeCast S1x1 (Host.divf (most y) (constant S_ .f32 0x43E00000#32)) shapeCasts_S_S1x1

variable (m : (ℓ : Loc nD τ sig) → Buf (Elt F) ℓ)

theorem V_prod (c : Dev nD) : V m c main_v4 = prod (m ((c : Thread nD τ).loc main_arg0)) (m ((c : Thread nD τ).loc main_arg1)) := by
  show StableHlo.after hostOps0 (fun b => m (c, b)) (Proc.devRef .tc main_v4) = _
  unfold hostOps0
  after_results
  rfl

theorem V_scale (c : Dev nD) :
    V m c main_v8 = scale (prod (m ((c : Thread nD τ).loc main_arg0)) (m ((c : Thread nD τ).loc main_arg1))) := by
  show StableHlo.after hostOps0 (fun b => m (c, b)) (Proc.devRef .tc main_v8) = _
  unfold hostOps0
  after_results
  rfl

/-- The one grid point. -/
def pt : Fin cfg0.N := ⟨0, by decide⟩

theorem blk0 (c : Dev nD) : iblk m c 0 pt = V m c main_v4 := by
  funext i
  refine congrArg (V m c main_v4) (funext fun a => Fin.ext ?_)
  match a with
  | ⟨0, _⟩ => show 0 * _ + 1 * (i 0).val = (i 0).val; omega
  | ⟨1, _⟩ => show 0 * _ + 1 * (i 1).val = (i 1).val; omega
theorem blk1 (c : Dev nD) : iblk m c 1 pt = V m c main_v8 := by
  funext i
  refine congrArg (V m c main_v8) (funext fun a => Fin.ext ?_)
  match a with
  | ⟨0, _⟩ => show 0 * _ + 1 * (i 0).val = (i 0).val; omega
  | ⟨1, _⟩ => show 0 * _ + 1 * (i 1).val = (i 1).val; omega
theorem blk2 (f : Vec F S4096x8192 .bf16) : ((cfg0.win 2).blk pt).view.read (Elt F) f = f := by
  funext i
  refine congrArg f (funext fun a => Fin.ext ?_)
  match a with
  | ⟨0, _⟩ => show 0 * _ + 1 * (i 0).val = (i 0).val; omega
  | ⟨1, _⟩ => show 0 * _ + 1 * (i 1).val = (i 1).val; omega

theorem ld0 (f : Vec F S4096x8192 .f32) : View.ld f r0_0 = f := by
  funext i
  refine congrArg f (funext fun a => Fin.ext ?_)
  match a with
  | ⟨0, _⟩ => show 0 + 1 * (i 0).val = (i 0).val; omega
  | ⟨1, _⟩ => show 0 + 1 * (i 1).val = (i 1).val; omega
theorem ld1 (f : Vec F S1x1 .f32) : View.ld f r0_1 = f := by
  funext i
  refine congrArg f (funext fun a => Fin.ext ?_)
  match a with
  | ⟨0, _⟩ => show 0 + 1 * (i 0).val = (i 0).val; omega
  | ⟨1, _⟩ => show 0 + 1 * (i 1).val = (i 1).val; omega

/-- The result array after the run. -/
theorem res_eq (c : Dev nD) (i : S4096x8192.Idx) :
    (dats m 0 c).arrAt 2 cfg0.N i = Value.E2 (V m c main_v4) (V m c main_v8) i := by
  have h := Value.blocks2 m c pt (by decide)
  rw [Value.flushed2, blk0, blk1] at h
  have h' := congrFun ((blk2 _).symm.trans h) i
  rw [h', ← Value.canon2_eq]
  unfold out0_2
  rw [ld0, ld1]
  rfl

end

variable (x : TX.Idx → EReal) (w : TW.Idx → EReal)

theorem dots_plain : dot_S4096x4096_S4096x8192_S4096x8192_1_0_0_1_n_n = DotDims.plain 4096 4096 8192 := rfl

theorem prod_apply (r : Fin 4096) (c : Fin 8192) : (prod (F := Ideal) x w (ix2 r c) : EReal) = Y x w r c := by
  have e1 : (Host.dotGeneral dot_S4096x4096_S4096x8192_S4096x8192_1_0_0_1_n_n none (extf (φ := .bf16) (F := Ideal) .f32 x bitsLt_bf16_f32)
      (extf (φ := .bf16) (F := Ideal) .f32 w bitsLt_bf16_f32) (ix2 r c) : EReal) = Z x w r c := by
    rw [dots_plain]
    exact StackMember.dotGeneral_plain_apply none _ _ r c
  have e2 : (broadcastInDim S4096x8192 ![] bcast_S_S4096x8192 (constant (F := Ideal) S_ .f32 0x00000000#32) (ix2 r c) : EReal) = 0 := by
    refine (broadcastInDim_scalar_apply _ _ _).trans ?_
    exact Ideal.ofBits_zero_f32
  unfold Y
  rw [← e1, ← e2]
  rfl

theorem most_apply (k : S_.Idx) : (most (F := Ideal) (prod (F := Ideal) x w) k : EReal) = A x w := by
  refine eq_of_forall_ge_iff fun z => ?_
  refine (host_max_le _ _ _ (fun b => b.elim0) _ k z).trans ?_
  rw [A_le, constant_apply, word_bot]
  refine (and_iff_right bot_le).trans ⟨fun h r c => ?_, fun h i => ?_⟩
  · refine le_trans ?_ (h (ix2 r c))
    show _ ≤ max (prod (F := Ideal) x w (ix2 r c) : EReal) (-(prod (F := Ideal) x w (ix2 r c)))
    rw [prod_apply]
    exact le_max_left _ _
  · obtain ⟨r, c, rfl⟩ : ∃ (r : Fin 4096) (c : Fin 8192), i = ix2 r c := ⟨i 0, i 1, eq_ix2 i⟩
    show max (prod (F := Ideal) x w (ix2 r c) : EReal) (-(prod (F := Ideal) x w (ix2 r c))) ≤ z
    rw [prod_apply]
    refine max_le (h r c) (le_trans ?_ (h r c))
    exact (EReal.neg_le_zero.mpr (Y_nonneg x w r c)).trans (Y_nonneg x w r c)

theorem scale_apply (k : S1x1.Idx) :
    (scale (F := Ideal) (prod (F := Ideal) x w) k : EReal) = Ideal.div (A x w) (Ideal.ofBits .f32 0x43E00000#32) := by
  unfold scale shapeCast
  rw [hostDivf_apply, most_apply, constant_apply]

/-- Every entry of the reference's result. -/
theorem E2_apply (r : Fin 4096) (c : Fin 8192) :
    (Value.E2 (F := Ideal) (prod (F := Ideal) x w) (scale (F := Ideal) (prod (F := Ideal) x w)) (ix2 r c) : EReal)
      = back (A x w) (Y x w r c) := by
  have e : (Value.E2 (F := Ideal) (prod (F := Ideal) x w) (scale (F := Ideal) (prod (F := Ideal) x w)) (ix2 r c) : EReal)
      = min (Ideal.div (prod (F := Ideal) x w (Value.ix2_0 (ix2 r c))) (scale (F := Ideal) (prod (F := Ideal) x w) (Value.ix2_1 (ix2 r c))))
          (Ideal.ofBits .f32 0x43E00000#32) * scale (F := Ideal) (prod (F := Ideal) x w) (Value.ix2_2 (ix2 r c)) := rfl
  have e0 : Value.ix2_0 (ix2 r c) = ix2 r c := funext fun a => match a with | ⟨0, _⟩ => rfl | ⟨1, _⟩ => rfl
  rw [e, scale_apply, e0, prod_apply, word_448]
  exact back_of_quot (Y_nonneg x w r c) (Y_le_A x w r c)

end Cert.RefMM

end
-- ==== Proof.Protocol.lean ====
/-
The protocol by which the four devices share their memory.

One cell per semaphore and device. Every cell has a single round. A barrier cell has two duties, one
per neighbour, whose payloads hand over the buffers that the receiver of the signal will write to; a
send cell returns what was lent to the transfer; a receive cell hands over what has landed, with its
contents. The levels order the waits: a device waiting on a cell owes only cells above it.
-/
module

public import proofs.«01_k».proof.Proof.Vals
public import Idealize.ShloMosaic.Lib.MemrefSat

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The algebra -/

abbrev UB : Type := URounds (GSem nD τ sig) Bool
abbrev UU : Type := UR sig nD τ × (UB × Counters)

local notation "𝕄" => MT nD τ sig Unit (Elt F) ℕ UU ℕ

abbrev EP : Emb (UR sig nD τ) 𝕄 := embL
def ER : Emb UB 𝕄 :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters 𝕄 := countersEmb

/-! ## Conjunctions over lists -/

section SepL

variable {M : Type} [URA M] {ι : Type}

/-- The conjunction over a list. -/
def sepL : List ι → (ι → sProp M) → sProp M
  | [], _ => iprop(emp)
  | i :: l, Φ => iprop(Φ i ∗ sepL l Φ)

theorem sepL_nil (Φ : ι → sProp M) : sepL [] Φ = iprop(emp) := rfl
theorem sepL_cons (i : ι) (l : List ι) (Φ : ι → sProp M) : sepL (i :: l) Φ = iprop(Φ i ∗ sepL l Φ) := rfl

theorem sepL_mono {l : List ι} {Φ Ψ : ι → sProp M} (h : ∀ i, Φ i ⊢ Ψ i) : sepL l Φ ⊢ sepL l Ψ := by
  induction l with
  | nil => exact .rfl
  | cons i l ih => exact BI.sep_mono (h i) ih

theorem sepL_split {l : List ι} {Φ Ψ : ι → sProp M} : sepL l (fun i => iprop(Φ i ∗ Ψ i)) ⊢ iprop(sepL l Φ ∗ sepL l Ψ) := by
  induction l with
  | nil => rw [sepL_nil, sepL_nil, sepL_nil]; exact BI.sep_emp.right
  | cons i l ih =>
    rw [sepL_cons, sepL_cons, sepL_cons]
    iintro ⟨⟨HΦ, HΨ⟩, H⟩
    ihave H' := ih $$ H
    icases H' with ⟨H₁, H₂⟩
    isplitl [HΦ H₁]
    · isplitl [HΦ] <;> iassumption
    · isplitl [HΨ] <;> iassumption
theorem sepL_zip {l : List ι} {Φ Ψ : ι → sProp M} : iprop(sepL l Φ ∗ sepL l Ψ) ⊢ sepL l (fun i => iprop(Φ i ∗ Ψ i)) := by
  induction l with
  | nil => rw [sepL_nil, sepL_nil, sepL_nil]; exact BI.sep_emp.left
  | cons i l ih =>
    rw [sepL_cons, sepL_cons, sepL_cons]
    iintro ⟨⟨HΦ, H₁⟩, HΨ, H₂⟩
    isplitl [HΦ HΨ]
    · isplitl [HΦ] <;> iassumption
    · iapply ih
      isplitl [H₁] <;> iassumption
theorem sepL_sep {l : List ι} {Φ Ψ : ι → sProp M} : sepL l (fun i => iprop(Φ i ∗ Ψ i)) = iprop(sepL l Φ ∗ sepL l Ψ) :=
  BI.Entails.antisymm sepL_split sepL_zip

/-- A conjunction over a finite type is the one over a list of its members. -/
theorem bigSep_eq_sepL [Fintype ι] [DecidableEq ι] (l : List ι) (hn : l.Nodup) (hu : l.toFinset = Finset.univ) (Φ : ι → sProp M) :
    bigSep Finset.univ Φ = sepL l Φ := by
  rw [← hu]
  clear hu
  induction l with
  | nil => rw [List.toFinset_nil, bigSep_empty, sepL_nil]; rfl
  | cons i l ih =>
    rw [List.toFinset_cons, bigSep_insert (by rw [List.mem_toFinset]; exact (List.nodup_cons.mp hn).1), ih (List.nodup_cons.mp hn).2, sepL_cons]; rfl

end SepL

instance sepL_storable {ι : Type} {l : List ι} {Φ : ι → sProp 𝕄} [h : ∀ i, BI.Storable (upEmb : UEmb _ 𝕄) (Φ i)] :
    BI.Storable (upEmb : UEmb _ 𝕄) (sepL l Φ) := by
  induction l with
  | nil => rw [sepL_nil]; infer_instance
  | cons i l ih => rw [sepL_cons]; infer_instance

/-- The hops, in order. -/
def hops : List (Fin 3) := [⟨0, by decide⟩, ⟨1, by decide⟩, ⟨2, by decide⟩]

/-! ## Holding memory -/

/-- Device `d` holds what `m` places, whatever it is; -/
def free (d : Dev nD) {sp : Space} {s : Shape} {e : EltTy} (m : Memref sig .tc sp s e) : sProp 𝕄 :=
  ownsSat (d.tc : Thread nD τ) m fullShare (fun _ => True)
/-- or holds it, at share `q`, with contents `V`. -/
def has (d : Dev nD) {sp : Space} {s : Shape} {e : EltTy} (m : Memref sig .tc sp s e) (q : PosShare TreeShare) (V : Vec F s e) : sProp 𝕄 :=
  owns (d.tc : Thread nD τ) m q V

instance free_storable (d : Dev nD) {sp : Space} {s : Shape} {e : EltTy} (m : Memref sig .tc sp s e) :
    BI.Storable (upEmb : UEmb _ 𝕄) (free (F := F) d m) := by unfold free; infer_instance
instance has_storable (d : Dev nD) {sp : Space} {s : Shape} {e : EltTy} (m : Memref sig .tc sp s e) (q : PosShare TreeShare) (V : Vec F s e) :
    BI.Storable (upEmb : UEmb _ 𝕄) (has d m q V) := by unfold has; infer_instance

theorem has_free (d : Dev nD) {sp : Space} {s : Shape} {e : EltTy} (m : Memref sig .tc sp s e) (V : Vec F s e) :
    has d m fullShare V ⊢ free d m := ownsSat_intro _ _ _ trivial

/-- Slot `(c, j)` of the gathered array, -/
abbrev gSl (c : Fin 4) (j : Fin 8) : Memref sig .tc .hbm S1024x1024 .fp8e4m3 := gAt (gof c j) (gof_inb c j)
/-- block `(c, j)` of the result, -/
abbrev oSl (c : Fin 4) (j : Fin 8) : Memref sig .tc .hbm S1024x1024 .bf16 := oAt (oof c j) (oof_inb c j)
def rof (e : Dev nD) : Fin 3 → Nat := ![e.val, 0, 0]
theorem rof_inb (e : Dev nD) : ∀ a, rof e a + S1x8x128.size a ≤ S4x8x128.size a := by revert e; decide
/-- and device `e`'s row of the maxima. -/
abbrev aRow (e : Dev nD) : Memref sig .tc .vmem S1x8x128 .f32 := aAt (rof e) (rof_inb e)

/-! ## Cells -/

/-- The cells of one device: its barrier; the four tables of send and receive semaphores of the two rings;
    the send and receive semaphores of the exchange of maxima. -/
abbrev Cx : Type := Option ((Fin 4 × Fin 3 × Fin 8) ⊕ (Bool × Fin 3))

abbrev cBar : Cx := none
abbrev cRS (h : Fin 3) (j : Fin 8) : Cx := some (.inl (0, h, j))
abbrev cRR (h : Fin 3) (j : Fin 8) : Cx := some (.inl (1, h, j))
abbrev cGS (h : Fin 3) (j : Fin 8) : Cx := some (.inl (2, h, j))
abbrev cGR (h : Fin 3) (j : Fin 8) : Cx := some (.inl (3, h, j))
abbrev cAS (k : Fin 3) : Cx := some (.inr (false, k))
abbrev cAR (k : Fin 3) : Cx := some (.inr (true, k))

abbrev barS : Sem sig := (SemArray.scalar (sig.barrier 0 rfl) : Sems sig S_).sem

def semOf : Cx → SemLoc sig
  | none => .reg barS
  | some (.inl (0, h, j)) => .dma (rsS h j)
  | some (.inl (1, h, j)) => .dma (rsR h j)
  | some (.inl (2, h, j)) => .dma (agS h j)
  | some (.inl (3, h, j)) => .dma (agR h j)
  | some (.inr (false, k)) => .dma (axS k)
  | some (.inr (true, k)) => .dma (axR k)

set_option maxRecDepth 65536 in
theorem semOf_inj : Function.Injective semOf := by decide +kernel
theorem semOf_ne_cp : ∀ x, semOf x ≠ .dma cpS := by decide +kernel

abbrev kcell (p : Dev nD × Cx) : GSem nD τ sig := ((p.1 : Thread nD τ), semOf p.2)
theorem kcell_inj : Function.Injective kcell := by
  rintro ⟨d, x⟩ ⟨d', x'⟩ h
  have h₁ : (d : Thread nD τ) = (d' : Thread nD τ) := congrArg Prod.fst h
  have h₂ : semOf x = semOf x' := congrArg Prod.snd h
  have h₃ : d = d' := congrArg Prod.fst h₁
  rw [h₃, semOf_inj h₂]

/-- Which cell a machine cell is, if it is one of the protocol's. -/
def whichCell : GSem nD τ sig → Option (Dev nD × Cx) := Function.partialInv kcell
theorem whichCell_kcell (d : Dev nD) (x : Cx) : whichCell (kcell (d, x)) = some (d, x) := Function.partialInv_left kcell_inj (d, x)

abbrev NB : ℕ := (cAt 0 0).view.dmaCredit
abbrev NG : ℕ := (gSl 0 0).view.dmaCredit
abbrev NA : ℕ := (aRow 0).view.dmaCredit
theorem NB_pos : 0 < NB := View.dmaCredit_pos _ (by decide +kernel)
theorem NG_pos : 0 < NG := View.dmaCredit_pos _ (by decide +kernel)
theorem NA_pos : 0 < NA := View.dmaCredit_pos _ (by decide +kernel)

/-- What a duty of the cell contributes. -/
def amt : Cx → ℕ
  | none => 1
  | some (.inl (0, _, _)) => NB
  | some (.inl (1, _, _)) => NB
  | some (.inl (2, _, _)) => NG
  | some (.inl (3, _, _)) => NG
  | some (.inr _) => NA
theorem amt_pos (x : Cx) : 0 < amt x := by
  unfold amt
  split
  exacts [Nat.one_pos, NB_pos, NB_pos, NG_pos, NG_pos, NA_pos]

/-- The level of the cell. -/
def lvx : Cx → ℕ
  | none => 1
  | some (.inl (1, h, _)) => 2 + h.val
  | some (.inl (3, h, _)) => 6 + h.val
  | some (.inr (true, _)) => 5
  | _ => 0

/-- The device `k + 1` places to the right, to which a device sends its row of maxima, -/
def axDst (k : Fin 3) (d : Dev nD) : Dev nD := ⟨(d.val + k.val + 1) % 4, Nat.mod_lt _ (by decide)⟩
/-- and the one it has a row from. -/
def axSrc (k : Fin 3) (d : Dev nD) : Dev nD := ⟨(d.val + 3 - k.val) % 4, Nat.mod_lt _ (by decide)⟩
theorem axSrc_dst (k : Fin 3) (d : Dev nD) : axSrc k (axDst k d) = d := by revert k d; decide +kernel
theorem axDst_src (k : Fin 3) (d : Dev nD) : axDst k (axSrc k d) = d := by revert k d; decide +kernel

/-- The share of the own row lent to the `k`-th of the three transfers. -/
def axq : Fin 3 → PosShare TreeShare
  | 0 => fullShare.left
  | 1 => fullShare.right.left
  | 2 => fullShare.right.right

/-! ## Payloads -/

section Payloads

variable (X : Dev nD → Vec F S4096x1024 .bf16) (W : Dev nD → Vec F S1024x8192 .bf16)

/-- The row that reaches device `d` with the first tile's first hop: the row of `d` on the device opposite. -/
def relay (h : Fin 3) (j : Fin 8) (d : Dev nD) : sProp 𝕄 :=
  if h = 0 ∧ j = 0 then free (leftN (leftN d)) (aRow d) else iprop(emp)

/-- What device `p` lets the sender of tile `j` write: the landing slots of the first ring and the slots of the
    gathered array it will receive. -/
def lend1 (p : Dev nD) (j : Fin 8) (h : Fin 3) : sProp 𝕄 := iprop(free p (cAt h j) ∗ free p (gSl (chunk h.succ j p) j))
def lend (p : Dev nD) (j : Fin 8) : sProp 𝕄 := sepL hops (lend1 p j)

def rights : List (Fin 8) := [⟨0, by decide⟩, ⟨1, by decide⟩, ⟨2, by decide⟩, ⟨3, by decide⟩]
def lefts : List (Fin 8) := [⟨4, by decide⟩, ⟨5, by decide⟩, ⟨6, by decide⟩, ⟨7, by decide⟩]

/-- The hand-over to device `d` by its right neighbour (`false`) and its left one (`true`). -/
def barPay (d : Dev nD) (b : Bool) : sProp 𝕄 :=
  match b with
  | false => iprop(sepL rights (lend (rightN d)) ∗ free (rightN d) (aRow d))
  | true => iprop(sepL lefts (lend (leftN d)) ∗ free (leftN d) (aRow d) ∗ free (leftN d) (aRow (rightN d)))

/-- A device's row of maxima. -/
def rowV (d : Dev nD) : Vec F S1x8x128 .f32 := fun _ => AM X W d

/-- What a transfer cell of device `d` hands over. -/
def pay (d : Dev nD) : Cx → sProp 𝕄
  | none => iprop(emp)
  | some (.inl (0, h, j)) => free d (sAt j)
  | some (.inl (1, h, j)) => iprop(has d (cAt h j) fullShare (SV X W h j (srcN j d)) ∗ relay h j d)
  | some (.inl (2, h, j)) => iprop(emp)
  | some (.inl (3, h, j)) => has d (gSl (chunk h.succ j d) j) fullShare (GV X W (chunk h.succ j d) j)
  | some (.inr (false, k)) => has d (aRow d) (axq k) (rowV X W d)
  | some (.inr (true, k)) => has d (aRow (axSrc k d)) fullShare (rowV X W (axSrc k d))

instance relay_storable (h : Fin 3) (j : Fin 8) (d : Dev nD) : BI.Storable (upEmb : UEmb _ 𝕄) (relay (F := F) h j d) := by
  unfold relay; split <;> infer_instance
instance lend_storable (p : Dev nD) (j : Fin 8) : BI.Storable (upEmb : UEmb _ 𝕄) (lend (F := F) p j) := by
  unfold lend lend1; infer_instance
instance barPay_storable (d : Dev nD) (b : Bool) : BI.Storable (upEmb : UEmb _ 𝕄) (barPay (F := F) d b) := by
  unfold barPay; split <;> infer_instance
instance pay_storable (d : Dev nD) (x : Cx) : BI.Storable (upEmb : UEmb _ 𝕄) (pay X W d x) := by
  unfold pay; split <;> infer_instance

/-! ## The schedule -/

def ringRd : Rounds.Schedule (GSem nD τ sig) Bool 𝕄 where
  duties g r := if r = 0 then (match whichCell g with | some (_, none) => Finset.univ | some (_, some _) => {false} | none => ∅) else ∅
  unitless _ := False
  amount g _ _ := match whichCell g with | some (_, x) => amt x | none => 1
  payload g _ b := match whichCell g with | some (d, none) => barPay d b | some (d, some x) => pay X W d (some x) | none => iprop(emp)
  amount_pos g _ _ _ := by split; exacts [amt_pos _, Nat.one_pos]

instance ringRd_storable (g : GSem nD τ sig) (r : ℕ) (b : Bool) : BI.Storable (upEmb : UEmb _ 𝕄) ((ringRd X W).payload g r b) := by
  dsimp only [ringRd]; split <;> infer_instance

theorem duties_bar (d : Dev nD) : (ringRd X W).duties (kcell (d, none)) 0 = Finset.univ := by
  dsimp only [ringRd]; rw [whichCell_kcell, if_pos rfl]
theorem duties_cell (d : Dev nD) (x : (Fin 4 × Fin 3 × Fin 8) ⊕ (Bool × Fin 3)) : (ringRd X W).duties (kcell (d, some x)) 0 = {false} := by
  dsimp only [ringRd]; rw [whichCell_kcell, if_pos rfl]
theorem duties_later (g : GSem nD τ sig) : ∀ r, 1 ≤ r → (ringRd X W).duties g r = ∅ :=
  fun r hr => by dsimp only [ringRd]; rw [if_neg (by omega)]
theorem amount_cell (d : Dev nD) (x : Cx) (b : Bool) : (ringRd X W).amount (kcell (d, x)) 0 b = amt x := by
  dsimp only [ringRd]; rw [whichCell_kcell]
theorem expect_bar (d : Dev nD) : (ringRd X W).expect (kcell (d, none)) 0 = 2 := by
  unfold Schedule.expect Schedule.amountOf
  rw [duties_bar, Finset.sum_congr rfl fun b _ => amount_cell X W d none b, Finset.sum_const]; rfl
theorem expect_cell (d : Dev nD) (x : (Fin 4 × Fin 3 × Fin 8) ⊕ (Bool × Fin 3)) : (ringRd X W).expect (kcell (d, some x)) 0 = amt (some x) := by
  unfold Schedule.expect Schedule.amountOf
  rw [duties_cell, Finset.sum_singleton, amount_cell]
theorem payload_bar (d : Dev nD) (b : Bool) : (ringRd X W).payload (kcell (d, none)) 0 b = barPay d b := by
  dsimp only [ringRd]; rw [whichCell_kcell]
theorem payload_cell (d : Dev nD) (x : (Fin 4 × Fin 3 × Fin 8) ⊕ (Bool × Fin 3)) (b : Bool) :
    (ringRd X W).payload (kcell (d, some x)) 0 b = pay X W d (some x) := by
  dsimp only [ringRd]; rw [whichCell_kcell]
theorem rest_bar (d : Dev nD) :
    bigSep ((ringRd X W).duties (kcell (d, none)) 0 \ ∅) (fun b => (ringRd X W).payload (kcell (d, none)) 0 b)
      = iprop(barPay d false ∗ barPay d true ∗ emp) := by
  rw [Finset.sdiff_empty, duties_bar, bigSep_eq_sepL [false, true] (by decide) (by decide), sepL_cons, sepL_cons, sepL_nil, payload_bar, payload_bar]
theorem rest_cell (d : Dev nD) (x : (Fin 4 × Fin 3 × Fin 8) ⊕ (Bool × Fin 3)) :
    bigSep ((ringRd X W).duties (kcell (d, some x)) 0 \ ∅) (fun b => (ringRd X W).payload (kcell (d, some x)) 0 b) = pay X W d (some x) := by
  rw [Finset.sdiff_empty, duties_cell, bigSep_singleton, payload_cell]

end Payloads

/-! ## What is owed, and the levels -/

/-- A list of payments, each one duty's amount to a cell of a device. -/
def owed : List (Dev nD × Cx) → CellTallies nD τ sig Unit
  | [] => 0
  | p :: l => owed l + tallyAt (kcell p) () (amt p.2)

theorem owed_nil : owed [] = 0 := rfl
theorem owed_cons (p : Dev nD × Cx) (l : List (Dev nD × Cx)) : owed (p :: l) = owed l + tallyAt (kcell p) () (amt p.2) := rfl

theorem owed_pos {l : List (Dev nD × Cx)} {g : GSem nD τ sig} {u : Unit} (h : 0 < owed l g u) : ∃ p ∈ l, g = kcell p := by
  induction l with
  | nil => exact absurd h (Nat.lt_irrefl 0)
  | cons p l ih =>
    rw [owed_cons, Pi.add_apply, Finsupp.add_apply, tallyAt_apply] at h
    by_cases hg : g = kcell p ∧ u = ()
    · exact ⟨p, List.mem_cons_self, hg.1⟩
    · rw [if_neg hg, Nat.add_zero] at h
      obtain ⟨q, hq, e⟩ := ih h
      exact ⟨q, List.mem_cons_of_mem _ hq, e⟩

def L (g : GSem nD τ sig) : Finset Unit := if g.1.2 = .tc then {()} else ∅
def lv (g : GSem nD τ sig) (_ : Unit) : ℕ := match whichCell g with | some (_, x) => lvx x | none => 0

theorem L_of_ne (g : GSem nD τ sig) (h : g.1.2 ≠ .tc) : L g = ∅ := if_neg h
theorem L_tc (d : Dev nD) (sm : SemLoc sig) : L ((d : Thread nD τ), sm) = {()} := if_pos rfl
theorem lv_kcell (d : Dev nD) (x : Cx) (u : Unit) : lv (kcell (d, x)) u = lvx x := by dsimp only [lv]; rw [whichCell_kcell]
/-- A cell that is none of the protocol's is at level zero. -/
theorem lv_other (d : Dev nD) (sm : SemLoc sig) (h : ∀ x, semOf x ≠ sm) (u : Unit) : lv ((d : Thread nD τ), sm) u = 0 := by
  dsimp only [lv]
  have : whichCell ((d : Thread nD τ), sm) = none := by
    unfold whichCell Function.partialInv
    rw [dif_neg]
    rintro ⟨⟨d', x⟩, e⟩
    exact h x (congrArg Prod.snd e)
  rw [this]

/-- Every payment of the list is to a cell above level `n`. -/
def Above (n : ℕ) (l : List (Dev nD × Cx)) : Prop := ∀ p ∈ l, n < lvx p.2

theorem Above.nil (n : ℕ) : Above n [] := fun _ h => absurd h List.not_mem_nil
theorem Above.append {n : ℕ} {l l' : List (Dev nD × Cx)} (h : Above n l) (h' : Above n l') : Above n (l ++ l') :=
  fun p hp => (List.mem_append.mp hp).elim (h p) (h' p)
theorem Above.map {n : ℕ} {ι : Type} {l : List ι} {f : ι → Dev nD × Cx} (h : ∀ i, n < lvx (f i).2) : Above n (l.map f) := by
  intro p hp
  obtain ⟨i, -, rfl⟩ := List.mem_map.mp hp
  exact h i

/-- A device may wait on a cell at level at most `n` while it owes cells above `n` only. -/
theorem mayWait_owed (d : Dev nD) (sm : SemLoc sig) (n : ℕ) (hsm : lv ((d : Thread nD τ), sm) () ≤ n) (l : List (Dev nD × Cx)) (hl : Above n l) :
    (levAts L lv : sProp 𝕄) ⊢ MayWait (d : Thread nD τ) sm () (owed l) :=
  MayOwe.of_cut (L := L) (lev := lv) n (fun p hp => by rw [Finset.mem_singleton.mp hp, L_tc]; exact Finset.mem_singleton_self _)
    (fun g u hg => by
      obtain ⟨p, -, rfl⟩ := owed_pos hg
      exact Finset.mem_singleton_self _)
    (fun p hp => by rw [Finset.mem_singleton.mp hp]; exact hsm)
    (fun g u hg => by
      obtain ⟨⟨d', x⟩, hp, rfl⟩ := owed_pos hg
      rw [lv_kcell]; exact hl _ hp)

/-- The payments of hop `h` of the first ring for the tiles of a list, -/
def payRS (d : Dev nD) (h : Fin 3) (j : Fin 8) : Dev nD × Cx := (dstN j d, cRR h j)
/-- of hop `h` of the second, -/
def payAG (d : Dev nD) (h : Fin 3) (j : Fin 8) : Dev nD × Cx := (dstN j d, cGR h j)
/-- and of the exchange. -/
def payAX (d : Dev nD) (k : Fin 3) : Dev nD × Cx := (axDst k d, cAR k)

/-- What is still owed from the second ring's hop `h` on, and so back to the beginning. -/
def due8 (d : Dev nD) : List (Dev nD × Cx) := []
def due7 (d : Dev nD) : List (Dev nD × Cx) := tiles.map (payAG d 2) ++ due8 d
def due6 (d : Dev nD) : List (Dev nD × Cx) := tiles.map (payAG d 1) ++ due7 d
def due5 (d : Dev nD) : List (Dev nD × Cx) := tiles.map (payAG d 0) ++ due6 d
def due4 (d : Dev nD) : List (Dev nD × Cx) := hops.map (payAX d) ++ due5 d
def due3 (d : Dev nD) : List (Dev nD × Cx) := tiles.map (payRS d 2) ++ due4 d
def due2 (d : Dev nD) : List (Dev nD × Cx) := tiles.map (payRS d 1) ++ due3 d
def due1 (d : Dev nD) : List (Dev nD × Cx) := tiles.map (payRS d 0) ++ due2 d
def due0 (d : Dev nD) : List (Dev nD × Cx) := (leftN d, cBar) :: (rightN d, cBar) :: due1 d

theorem above7 (d : Dev nD) {n : ℕ} (h : n < 8) : Above n (due7 d) := (Above.map fun j => by simp only [payAG, lvx]; omega).append (Above.nil _)
theorem above6 (d : Dev nD) {n : ℕ} (h : n < 7) : Above n (due6 d) := (Above.map fun j => by simp only [payAG, lvx]; omega).append (above7 d (by omega))
theorem above5 (d : Dev nD) {n : ℕ} (h : n < 6) : Above n (due5 d) := (Above.map fun j => by simp only [payAG, lvx]; omega).append (above6 d (by omega))
theorem above4 (d : Dev nD) {n : ℕ} (h : n < 5) : Above n (due4 d) := (Above.map fun j => by simp only [payAX, lvx]; omega).append (above5 d (by omega))
theorem above3 (d : Dev nD) {n : ℕ} (h : n < 4) : Above n (due3 d) := (Above.map fun j => by simp only [payRS, lvx]; omega).append (above4 d (by omega))
theorem above2 (d : Dev nD) {n : ℕ} (h : n < 3) : Above n (due2 d) := (Above.map fun j => by simp only [payRS, lvx]; omega).append (above3 d (by omega))
theorem above1 (d : Dev nD) {n : ℕ} (h : n < 2) : Above n (due1 d) := (Above.map fun j => by simp only [payRS, lvx]; omega).append (above2 d (by omega))

end Cert.RingMM

end
-- ==== Proof.Memory.lean ====
/-
The rules by which the steps of the kernel touch memory: loads, stores and copies on one device, and
the cutting of a buffer into its slots and the putting together again.
-/
module

public import proofs.«01_k».proof.Proof.Protocol

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

abbrev 𝒱₀ : Variants := Variants.none

/-- The weakest precondition of a program of device `d`. -/
def wpd (d : Dev nD) {α : Type} (p : ℙ α) (Q : α → sProp 𝕄) : sProp 𝕄 :=
  wp frame (wpE (defs₀ (F := F)) 𝒱₀ (d : Thread nD τ) none) Set.univ p Q

section Rules

variable {d : Dev nD} {α β : Type}

theorem wpd_ret (a : α) (Q : α → sProp 𝕄) : Q a ⊢ wpd d (.ret a) Q := by
  unfold wpd; rw [wp_ret]; exact BI.fupd_intro

theorem wpd_bind (p : ℙ α) (k : α → ℙ β) (Q : β → sProp 𝕄) : wpd d p (fun a => wpd d (k a) Q) ⊢ wpd d (p >>= k) Q := by
  unfold wpd; rw [wp_bind]

/-- A load from the whole of a memref through a rectangle. -/
theorem load_has {cs : CoreSpace} {s : Shape} {e : EltTy} (m : Memref sig .tc cs s e) (r : Rect s) (hl : m.view.LoadsAt r.toLoadRect)
    (q : PosShare TreeShare) (V : Vec F s e) (Q : (r.toLoadRect.shape.Idx → Elt F e) → sProp 𝕄) :
    has d m q V ⊢ iprop((has d m q V -∗ Q (fun i => V (r.toLoadRect.idx i))) -∗ wpd d (Prog.lift (.load m r.toLoadRect hl)) Q) := by
  unfold has owns
  iintro ⟨%f, %hf, H⟩
  iintro HQ
  unfold wpd Prog.lift
  iapply (wp_load 𝒱₀ (d : Thread nD τ) none Set.univ (m := m) (S := m.view.set) (Finset.map_subset_map.mpr (Finset.subset_univ _))) $$ H
  iintro H
  rw [wp_ret]; imodintro
  rw [show m.view.readAt (Elt F) r.toLoadRect f = fun i => V (r.toLoadRect.idx i) from funext fun i => by rw [View.readAt_apply, hf]]
  iapply HQ
  iexists f
  isplitr
  · ipureintro; exact hf
  iassumption

/-- A load of a slot, held by itself without its leading axes; -/
theorem load_slot {cs : CoreSpace} {s s' : Shape} {e : EltTy} (m : Memref sig .tc cs s e) (r : Rect s) (hr : ∀ a, r.stride a = 1)
    (hs : r.shape.Squeezes s') (hl : m.view.LoadsAt r.toLoadRect) (q : PosShare TreeShare) (V : Vec F s' e)
    (Q : (r.toLoadRect.shape.Idx → Elt F e) → sProp 𝕄) :
    has d ((m.slice r hr).squeeze s' hs) q V
      ⊢ iprop((has d ((m.slice r hr).squeeze s' hs) q V -∗ Q (fun i => V ((Shape.reshapeEquiv hs.numel_eq).symm i)))
          -∗ wpd d (Prog.lift (.load m r.toLoadRect hl)) Q) := by
  unfold has owns
  iintro ⟨%f, %hf, H⟩
  iintro HQ
  unfold wpd Prog.lift
  have hS : m.view.setOn r.toLoadRect.set ⊆ ((m.slice r hr).squeeze s' hs).view.set := by
    exact (View.set_slice m.view r).symm.subset.trans (View.set_reshape (m.view.slice r) hs.numel_eq).symm.subset
  iapply (wp_load 𝒱₀ (d : Thread nD τ) none Set.univ (m := m) hS) $$ H
  iintro H
  rw [wp_ret]; imodintro
  rw [show m.view.readAt (Elt F) r.toLoadRect f = fun i => V ((Shape.reshapeEquiv hs.numel_eq).symm i) from funext fun i => by
    rw [← hf]
    refine (congrArg (fun x => m.view.read (Elt F) f (r.emb x)) ((Shape.reshapeEquiv hs.numel_eq).apply_symm_apply i).symm)]
  iapply HQ
  iexists f
  isplitr
  · ipureintro; exact hf
  iassumption

/-- and of one whose contents do not matter. -/
theorem load_free {cs : CoreSpace} {s s' : Shape} {e : EltTy} (m : Memref sig .tc cs s e) (r : Rect s) (hr : ∀ a, r.stride a = 1)
    (hs : r.shape.Squeezes s') (hl : m.view.LoadsAt r.toLoadRect) (Q : (r.toLoadRect.shape.Idx → Elt F e) → sProp 𝕄) :
    free d ((m.slice r hr).squeeze s' hs)
      ⊢ iprop((∀ v, free d ((m.slice r hr).squeeze s' hs) -∗ Q v) -∗ wpd d (Prog.lift (.load m r.toLoadRect hl)) Q) := by
  unfold free ownsSat
  iintro ⟨%f, %hf, H⟩
  iintro HQ
  unfold wpd Prog.lift
  have hS : m.view.setOn r.toLoadRect.set ⊆ ((m.slice r hr).squeeze s' hs).view.set := by
    exact (View.set_slice m.view r).symm.subset.trans (View.set_reshape (m.view.slice r) hs.numel_eq).symm.subset
  iapply (wp_load 𝒱₀ (d : Thread nD τ) none Set.univ (m := m) hS) $$ H
  iintro H
  rw [wp_ret]; imodintro
  iapply HQ
  iexists f
  isplitr
  · ipureintro; exact hf
  iassumption

/-- A store that fills a slot. -/
theorem store_slot {cs : CoreSpace} {s s' : Shape} {e : EltTy} (m : Memref sig .tc cs s e) (r : Rect s) (hr : ∀ a, r.stride a = 1)
    (hs : r.shape.Squeezes s') (w : r.shape.Idx → Elt F e) (hx : (m.access r).Stores Finset.univ) (hm) (Q : PUnit → sProp 𝕄) :
    free d ((m.slice r hr).squeeze s' hs)
      ⊢ iprop((has d ((m.slice r hr).squeeze s' hs) fullShare (fun i => w (Shape.reshapeEquiv hs.numel_eq i)) -∗ Q ⟨⟩)
          -∗ wpd d (Prog.lift (.store m r w Finset.univ hx hm)) Q) := by
  unfold free ownsSat has owns
  iintro ⟨%f, %hf, H⟩
  iintro HQ
  unfold wpd Prog.lift
  have hS : (m.access r).setOn Finset.univ ⊆ ((m.slice r hr).squeeze s' hs).view.set := by
    exact (View.set_reshape (m.view.slice r) hs.numel_eq).symm.subset
  iapply (wp_store 𝒱₀ (d : Thread nD τ) none Set.univ (m := m) (r := r) hS) $$ H
  iintro H
  rw [wp_ret]; imodintro
  iapply HQ
  iexists (m.access r).write (Elt F) f w Finset.univ
  isplitr
  · ipureintro
    funext i
    exact congrFun (View.read_write_univ (v := m.access r) f w) (Shape.reshapeEquiv hs.numel_eq i)
  iassumption

/-- The same for a slot that keeps its axes. -/
theorem load_row {cs : CoreSpace} {s : Shape} {e : EltTy} (m : Memref sig .tc cs s e) (r : Rect s) (hr : ∀ a, r.stride a = 1)
    (hl : m.view.LoadsAt r.toLoadRect) (Q : (r.toLoadRect.shape.Idx → Elt F e) → sProp 𝕄) :
    free d (m.slice r hr) ⊢ iprop((∀ v, free d (m.slice r hr) -∗ Q v) -∗ wpd d (Prog.lift (.load m r.toLoadRect hl)) Q) := by
  unfold free ownsSat
  iintro ⟨%f, %hf, H⟩
  iintro HQ
  unfold wpd Prog.lift
  iapply (wp_load 𝒱₀ (d : Thread nD τ) none Set.univ (m := m) (View.set_slice m.view r).symm.subset) $$ H
  iintro H
  rw [wp_ret]; imodintro
  iapply HQ
  iexists f
  isplitr
  · ipureintro; exact hf
  iassumption

theorem store_row {cs : CoreSpace} {s : Shape} {e : EltTy} (m : Memref sig .tc cs s e) (r : Rect s) (hr : ∀ a, r.stride a = 1)
    (w : r.shape.Idx → Elt F e) (hx : (m.access r).Stores Finset.univ) (hm) (Q : PUnit → sProp 𝕄) :
    free d (m.slice r hr)
      ⊢ iprop((has d (m.slice r hr) fullShare w -∗ Q ⟨⟩) -∗ wpd d (Prog.lift (.store m r w Finset.univ hx hm)) Q) := by
  unfold free ownsSat has owns
  iintro ⟨%f, %hf, H⟩
  iintro HQ
  unfold wpd Prog.lift
  iapply (wp_store 𝒱₀ (d : Thread nD τ) none Set.univ (m := m) (r := r) (S := (m.access r).set) (Mk := Finset.univ) subset_rfl) $$ H
  iintro H
  rw [wp_ret]; imodintro
  iapply HQ
  iexists (m.access r).write (Elt F) f w Finset.univ
  isplitr
  · ipureintro
    exact View.read_write_univ (v := m.access r) f w
  iassumption

/-- Loads and stores of a whole buffer. -/
theorem load_whole {cs : CoreSpace} {s : Shape} {e : EltTy} (m : Memref sig .tc cs s e) {off : Fin s.rank → Nat}
    (h0 : off = fun _ => 0) (inb : ∀ a, off a + s.size a ≤ s.size a) (hl : m.view.LoadsAt (Rect.unit off s.size inb).toLoadRect)
    (q : PosShare TreeShare) (V : Vec F s e) (Q : (s.Idx → Elt F e) → sProp 𝕄) :
    has d m q V ⊢ iprop((has d m q V -∗ Q V) -∗ wpd d (Prog.lift (.load m (Rect.unit off s.size inb).toLoadRect hl)) Q) := by
  subst h0
  have h := load_has (d := d) m (Rect.unit (fun _ => 0) s.size inb) hl q V Q
  rw [show (fun i => V ((Rect.unit (fun _ => 0) s.size inb).toLoadRect.idx i)) = V from funext fun i => congrArg V (funext fun a => Fin.ext (by
    show 0 + 1 * (i a).val = (i a).val; omega))] at h
  exact h

theorem load_any {cs : CoreSpace} {s : Shape} {e : EltTy} (m : Memref sig .tc cs s e) (r : Rect s) (hl : m.view.LoadsAt r.toLoadRect)
    (Q : (r.toLoadRect.shape.Idx → Elt F e) → sProp 𝕄) :
    free d m ⊢ iprop((∀ v, free d m -∗ Q v) -∗ wpd d (Prog.lift (.load m r.toLoadRect hl)) Q) := by
  unfold free ownsSat
  iintro ⟨%f, %hf, H⟩
  iintro HQ
  unfold wpd Prog.lift
  iapply (wp_load 𝒱₀ (d : Thread nD τ) none Set.univ (m := m) (S := m.view.set) (Finset.map_subset_map.mpr (Finset.subset_univ _))) $$ H
  iintro H
  rw [wp_ret]; imodintro
  iapply HQ
  iexists f
  isplitr
  · ipureintro; exact hf
  iassumption

theorem store_whole {cs : CoreSpace} {s : Shape} {e : EltTy} (m : Memref sig .tc cs s e) {off : Fin s.rank → Nat}
    (h0 : off = fun _ => 0) (inb : ∀ a, off a + s.size a ≤ s.size a) (w : s.Idx → Elt F e)
    (hx : (m.access (Rect.unit off s.size inb)).Stores Finset.univ) (hm) (Q : PUnit → sProp 𝕄) :
    free d m ⊢ iprop((has d m fullShare w -∗ Q ⟨⟩)
      -∗ wpd d (Prog.lift (.store m (Rect.unit off s.size inb) w Finset.univ hx hm)) Q) := by
  subst h0
  unfold free ownsSat has owns
  iintro ⟨%f, %hf, H⟩
  iintro HQ
  unfold wpd Prog.lift
  iapply (wp_store 𝒱₀ (d : Thread nD τ) none Set.univ (m := m) (r := Rect.unit (fun _ => 0) s.size inb) (View.set_slice_subset m.view _)) $$ H
  iintro H
  rw [wp_ret]; imodintro
  iapply HQ
  iexists (m.access (Rect.unit (fun _ => 0) s.size inb)).write (Elt F) f w Finset.univ
  isplitr
  · ipureintro
    funext i
    have h := View.read_slice_write_emb (v := m.view) (Rect.unit (fun _ => 0) s.size inb) f w (Finset.mem_univ i)
    rw [show (Rect.unit (fun _ => 0) s.size inb).emb i = i from funext fun a => Fin.ext (by
      show 0 + 1 * (i a).val = (i a).val; omega)] at h
    exact h
  iassumption

/-! ## Debts and copies -/

/-- Device `d`'s counter of local copies at rest, and what it still owes. -/
def run (d : Dev nD) (l : List (Dev nD × Cx)) : sProp 𝕄 :=
  iprop(semVal ((d : Thread nD τ), .dma cpS) 0 ∗ ∃ Wt, owes (d : Thread nD τ) (owed l) Wt)

/-- A copy on the device, waited for at once. -/
theorem copy {sp sp' : Space} {s : Shape} {e : EltTy} (src : Memref sig .tc sp s e) (dst : Memref sig .tc sp' s e)
    (h₁ : src.view.WordExact) (h₂ : dst.view.WordExact) (h₃) (h₄ : src.view.WordExact) (h₅ : dst.view.WordExact)
    (hN : 0 < dst.view.dmaCredit) (q : PosShare TreeShare) (V : Vec F s e) (l : List (Dev nD × Cx)) (hl : Above 0 l) (Q : PUnit → sProp 𝕄) :
    iprop(levAts L lv ∗ has d src q V ∗ free d dst ∗ run d l)
      ⊢ iprop((has d src q V ∗ has d dst fullShare V ∗ run d l -∗ Q ⟨⟩)
          -∗ wpd d (Prog.lift (.enqueueDma src (.here dst) (.dma cpS) h₁ h₂ h₃) >>= fun _ => Prog.lift (.waitDma2 cpS src dst h₄ h₅)) Q) := by
  unfold has owns free ownsSat run
  iintro ⟨#Hlev, ⟨%f, %hf, Hs⟩, ⟨%g, %hg, Hd⟩, Hv, %Wt, HO⟩
  iintro HQ
  iapply wpd_bind
  unfold wpd Prog.lift
  iapply (wp_dmaLocal EC 𝒱₀ (d : Thread nD τ) none () dst.view.dmaCredit rfl hN subset_rfl) $$ [Hs Hd Hv]
  · isplitl [Hs]; · iexact Hs
    isplitl [Hd]; · iexact Hd
    iexact Hv
  iintro Hf
  rw [wp_ret]; imodintro
  iapply (wp_waitLocalO EC 𝒱₀ (d : Thread nD τ) none () rfl) $$ [Hf HO]
  · isplitl [Hf]; · iexact Hf
    isplitl [HO]; · iexact HO
    iapply (mayWait_owed d (.dma cpS) 0 (le_of_eq (lv_other d _ semOf_ne_cp ())) l hl)
    iexact Hlev
  iintro ⟨⟨Hd, Hs⟩, Hv, HO⟩
  rw [wp_ret]; imodintro
  iapply HQ
  isplitl [Hs]
  · iexists f
    isplitr
    · ipureintro; exact hf
    iexact Hs
  isplitl [Hd]
  · iexists _
    isplitr
    rotate_left
    · iexact Hd
    ipureintro
    rw [View.read_write_univ, hf]
  isplitl [Hv]; · iexact Hv
  iexists _; iexact HO

end Rules

end Cert.RingMM

end
-- ==== Proof.Transfer.lean ====
/-
The transfers between devices: sends, waits and the meeting at the barrier, each as a rule for the
protocol's cells.
-/
module

public import proofs.«01_k».proof.Proof.Memory

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

section Ring

variable (X : Dev nD → Vec F S4096x1024 .bf16) (W : Dev nD → Vec F S1024x8192 .bf16) (K : Dev nD × Cx → ℕ)

/-- Every cell's invariant, and that its round has begun. -/
def records : sProp 𝕄 :=
  bigSep Finset.univ fun p : Dev nD × Cx => iprop(cellInv ER (ringRd X W) (K p) (kcell p) ∗ reached ER (kcell p) 0)
/-- What every step may use: the cells and the levels. -/
def ctx : sProp 𝕄 := iprop(records X W K ∗ levAts L lv)

instance records_persistent : BI.Persistent (records X W K) := by unfold records; infer_instance
instance ctx_persistent : BI.Persistent (ctx X W K) := by unfold ctx; infer_instance

theorem ctx_lev : ctx X W K ⊢ levAts L lv := by
  unfold ctx; iintro ⟨-, H⟩; iexact H
theorem ctx_cell (p : Dev nD × Cx) : ctx X W K ⊢ iprop(cellInv ER (ringRd X W) (K p) (kcell p) ∗ reached ER (kcell p) 0) := by
  classical
  unfold ctx records
  iintro ⟨H, -⟩
  have h : bigSep Finset.univ (fun p : Dev nD × Cx => iprop(cellInv ER (ringRd X W) (K p) (kcell p) ∗ reached ER (kcell p) 0))
      = iprop((cellInv ER (ringRd X W) (K p) (kcell p) ∗ reached ER (kcell p) 0)
          ∗ bigSep (Finset.univ.erase p) (fun p : Dev nD × Cx => iprop(cellInv ER (ringRd X W) (K p) (kcell p) ∗ reached ER (kcell p) 0))) :=
    bigSep_erase (Finset.mem_univ p)
  ihave H' := (Entails.of_eq h) $$ H
  icases H' with ⟨H, -⟩
  iexact H

variable {d : Dev nD}

/-- Waiting on a transfer cell: what it hands over, and its counter at rest. -/
theorem wait_cell (x : (Fin 4 × Fin 3 × Fin 8) ⊕ (Bool × Fin 3)) (sm : DmaSem sig) (hx : semOf (some x) = .dma sm)
    {sp sp' : Space} {s s' : Shape} {e e' : EltTy} (srcw : Memref sig .tc sp s e) (dstw : Memref sig .tc sp' s' e') (h₁ : srcw.view.WordExact) (h₂ : dstw.view.WordExact)
    (hN : dstw.view.dmaCredit = amt (some x)) (l : List (Dev nD × Cx)) (hl : Above (lvx (some x)) l) (Q : PUnit → sProp 𝕄) :
    iprop(ctx X W K ∗ cred (tallyAt (kcell (d, some x)) () (amt (some x))) ∗ atPos ER (kcell (d, some x)) 0 ∅ 0 ∗ run d l)
      ⊢ iprop((pay X W d (some x) ∗ semVal (kcell (d, some x)) 0 ∗ run d l -∗ Q ⟨⟩)
          -∗ wpd d (Prog.lift (.waitDma2 sm srcw dstw h₁ h₂)) Q) := by
  have hk : kcell (d, some x) = ((d : Thread nD τ), SemLoc.dma sm) := by rw [kcell, hx]
  unfold run
  iintro ⟨#Hc, Hcr, Hat, Hv, %Wt, HO⟩
  iintro HQ
  unfold wpd Prog.lift
  ihave #Hcell := (ctx_cell X W K (d, some x)) $$ Hc
  icases Hcell with ⟨#HI, -⟩
  have hrest := rest_cell X W d x
  have hexp := expect_cell X W d x
  have hdl := duties_later X W (kcell (d, some x))
  have hlv := lv_kcell d (some x) ()
  rw [hk] at hrest hexp hdl hlv
  rw [hk]
  iapply (Rounds.wp_wait_rest_token 𝒱₀ ER (ringRd X W) (d : Thread nD τ) none (κ := K (d, some x))
      (wpE_waitDma2_eq 𝒱₀ (d : Thread nD τ) none Set.univ) (Set.mem_univ _) () (O := owed l) (W := Wt) (R := 0) (m := 0) (T := ∅)
      (by rw [hexp, Nat.zero_add, hN])) $$ [Hcr HO Hat]
  · isplitr; · iexact HI
    isplitl [Hcr]; · rw [hN]; iexact Hcr
    isplitl [HO]; · iexact HO
    isplitr
    · iapply (mayWait_owed d (.dma sm) (lvx (some x)) (le_of_eq hlv) l hl)
      iapply (ctx_lev X W K) $$ Hc
    iexact Hat
  iintro ⟨HO, Hat, -, Hp⟩
  ihave Hp := (Entails.of_eq hrest) $$ Hp
  rw [wp_ret]
  imod (Rounds.cell_close ER (ringRd X W) (Set.mem_univ (K (d, some x))) (fun h => h) (R := 0 + 1) hdl) $$ [Hat] with Hz
  · isplitr; · iexact HI
    iexact Hat
  imodintro
  iapply HQ
  isplitl [Hp]; · iexact Hp
  isplitl [Hz]; · iexact Hz
  isplitl [Hv]; · iexact Hv
  iexists _; iexact HO

/-- Sending: the next payment of the list is made, and the send cell will return what the transfer borrows. -/
theorem send_cell (x y : (Fin 4 × Fin 3 × Fin 8) ⊕ (Bool × Fin 3)) (e : Dev nD) (sS sR : DmaSem sig) (hx : semOf (some x) = .dma sS) (hy : semOf (some y) = .dma sR)
    {sp sp' : Space} {s : Shape} {t : EltTy} (src : Memref sig .tc sp s t) (dst : Memref sig .tc sp' s t)
    (hsc) (h₁ : src.view.WordExact) (h₂ : dst.view.WordExact) (h₃)
    (hNx : amt (some x) = dst.view.dmaCredit) (hNy : amt (some y) = dst.view.dmaCredit)
    (q : PosShare TreeShare) (V : Vec F s t) (R : sProp 𝕄) (l : List (Dev nD × Cx))
    (hp₁ : has d src q V ⊢ pay X W d (some x)) (hp₂ : iprop(has e dst fullShare V ∗ R) ⊢ pay X W e (some y)) (Q : PUnit → sProp 𝕄) :
    iprop(ctx X W K ∗ has d src q V ∗ free e dst ∗ R ∗ run d ((e, some y) :: l)
        ∗ dutyTok ER (kcell (d, some x)) 0 false ∗ dutyTok ER (kcell (e, some y)) 0 false)
      ⊢ iprop((cred (tallyAt (kcell (d, some x)) () (amt (some x))) ∗ run d l -∗ Q ⟨⟩)
          -∗ wpd d (Prog.lift (.enqueueDma src (.remote (Dev.tc e) dst (.dma sS) hsc) (.dma sR) h₁ h₂ h₃)) Q) := by
  have hkx : kcell (d, some x) = ((d : Thread nD τ), SemLoc.dma sS) := by rw [kcell, hx]
  have hky : kcell (e, some y) = ((e : Thread nD τ), SemLoc.dma sR) := by rw [kcell, hy]
  unfold run
  rw [owed_cons]
  iintro ⟨#Hc, Hs, Hd, HR, ⟨Hv, %Wt, HO⟩, Htx, Hty⟩
  iintro HQ
  unfold has free owns ownsSat at *
  icases Hs with ⟨%f, %hf, Hs⟩
  icases Hd with ⟨%g, %hg, Hd⟩
  unfold wpd Prog.lift
  ihave #Hcx := (ctx_cell X W K (d, some x)) $$ Hc
  icases Hcx with ⟨#HIx, #Hrx⟩
  ihave #Hcy := (ctx_cell X W K (e, some y)) $$ Hc
  icases Hcy with ⟨#HIy, #Hry⟩
  have hax := amount_cell X W d (some x) false
  have hay := amount_cell X W e (some y) false
  have hpx := payload_cell X W d x false
  have hpy := payload_cell X W e y false
  have hdx := duties_cell X W d x
  have hdy := duties_cell X W e y
  rw [hkx] at hax hpx hdx
  rw [hky] at hay hpy hdy
  rw [hkx, hky]
  iapply (Rounds.wp_send_pointsTo_with 𝒱₀ ER (ringRd X W) (d : Thread nD τ) none (κ₁ := K (d, some x)) (κ₂ := K (e, some y))
      (r₁ := 0) (r₂ := 0) (d₁ := false) (d₂ := false) (fs := f) (fd := g) (F := R) (O₀ := owed l + tallyAt ((e : Thread nD τ), SemLoc.dma sR) () (amt (some y)))
      (by rw [hdx]; exact Finset.mem_singleton_self _) (by rw [hdy]; exact Finset.mem_singleton_self _)
      () () dst.view.dmaCredit rfl (hax.trans hNx) (hay.trans hNy) (owed l) (by rw [hNy]) (W := Wt)
      (by
        rw [hpx]; refine .trans ?_ hp₁
        iintro H; iexists f; isplitr
        · ipureintro; exact hf
        iexact H)
      (by
        rw [hpy]; refine .trans ?_ hp₂
        iintro ⟨H, HR⟩; isplitr [HR]
        · iexists _; isplitr
          rotate_left
          · iexact H
          ipureintro; rw [View.read_write_univ, hf]
        iexact HR)) $$ [Hs Hd HR HO Htx Hty]
  · isplitr; · iexact HIx
    isplitr; · iexact HIy
    isplitl [Hs]; · iexact Hs
    isplitl [Hd HR]
    · isplitl [Hd]; · iexact Hd
      iexact HR
    isplitl [HO]; · iexact HO
    isplitl [Htx]; · iexact Htx
    isplitr; · iexact Hrx
    isplitl [Hty]; · iexact Hty
    iexact Hry
  iintro ⟨Hcr, HO⟩
  rw [wp_ret]; imodintro
  iapply HQ
  isplitl [Hcr]; · rw [hNx]; iexact Hcr
  isplitl [Hv]; · iexact Hv
  iexists _; iexact HO

/-! ## The meeting -/

/-- A device's place at its own barrier cell, its duties at its neighbours' and the credit for its wait. -/
def barG (d : Dev nD) : sProp 𝕄 :=
  iprop(atPos ER (kcell (d, cBar)) 0 ∅ 0 ∗ dutyTok ER (kcell (leftN d, cBar)) 0 false ∗ dutyTok ER (kcell (rightN d, cBar)) 0 true
    ∗ cred (tallyAt (kcell (d, cBar)) () 2))

theorem dev1_eq (d : Dev nD) : (⟨k0_dev1 d, k0_dev1_lt d⟩ : Dev nD) = leftN d := by revert d; decide +kernel
theorem dev2_eq (d : Dev nD) : (⟨k0_dev2 d, k0_dev2_lt d⟩ : Dev nD) = rightN d := by revert d; decide +kernel

theorem meet_step (Q : PUnit → sProp 𝕄) :
    iprop(ctx X W K ∗ barG d ∗ barPay (leftN d) false ∗ barPay (rightN d) true ∗ run d (due0 d))
      ⊢ iprop((barPay d false ∗ barPay d true ∗ semVal (kcell (d, cBar)) 0 ∗ run d (due1 d) -∗ Q ⟨⟩) -∗ wpd d (meet d) Q) := by
  unfold run barG due0
  rw [owed_cons, owed_cons]
  iintro ⟨#Hc, ⟨Hat, HtL, HtR, Hcr⟩, HL, HR, Hv, %Wt, HO⟩
  iintro HQ
  unfold wpd meet
  simp only [semSignalWord, semWaitWord, Prog.lift, Prog.bind_op, Prog.bind_ret, Prog.pure_eq_ret, dev1_eq, dev2_eq]
  ihave #Hcd := (ctx_cell X W K (d, cBar)) $$ Hc
  icases Hcd with ⟨#HI, -⟩
  ihave #HcL := (ctx_cell X W K (leftN d, cBar)) $$ Hc
  icases HcL with ⟨#HIL, #HrL⟩
  ihave #HcR := (ctx_cell X W K (rightN d, cBar)) $$ Hc
  icases HcR with ⟨#HIR, #HrR⟩
  iapply (Rounds.wp_signal 𝒱₀ ER (ringRd X W) (d : Thread nD τ) none (dst := (leftN d : Thread nD τ)) (κ := K (leftN d, cBar))
      (d := false) (by rw [show ((leftN d : Thread nD τ), SemLoc.reg barS) = kcell (leftN d, none) from rfl, duties_bar]; exact Finset.mem_univ _)
      ((amount_cell X W (leftN d) none false).trans (by decide)) () (owed (due1 d) + tallyAt (kcell (rightN d, cBar)) () 1) rfl) $$ [HO HtL HL]
  · isplitr; · iexact HIL
    isplitl [HO]; · iexact HO
    isplitl [HtL]; · iexact HtL
    isplitl [HL]; · rw [show ((leftN d : Thread nD τ), SemLoc.reg barS) = kcell (leftN d, none) from rfl, payload_bar]; iexact HL
    iexact HrL
  iintro HO
  iapply (Rounds.wp_signal 𝒱₀ ER (ringRd X W) (d : Thread nD τ) none (dst := (rightN d : Thread nD τ)) (κ := K (rightN d, cBar))
      (d := true) (by rw [show ((rightN d : Thread nD τ), SemLoc.reg barS) = kcell (rightN d, none) from rfl, duties_bar]; exact Finset.mem_univ _)
      ((amount_cell X W (rightN d) none true).trans (by decide)) () (owed (due1 d)) rfl) $$ [HO HtR HR]
  · isplitr; · iexact HIR
    isplitl [HO]; · iexact HO
    isplitl [HtR]; · iexact HtR
    isplitl [HR]; · rw [show ((rightN d : Thread nD τ), SemLoc.reg barS) = kcell (rightN d, none) from rfl, payload_bar]; iexact HR
    iexact HrR
  iintro HO
  iapply (Rounds.wp_wait_rest_token 𝒱₀ ER (ringRd X W) (d : Thread nD τ) none (κ := K (d, cBar))
      (wpE_semWait_eq 𝒱₀ (d : Thread nD τ) none Set.univ) (Set.mem_univ _) () (O := owed (due1 d)) (W := Wt) (R := 0) (m := 0) (T := ∅)
      (by rw [show ((d : Thread nD τ), SemLoc.reg barS) = kcell (d, none) from rfl, expect_bar]; decide)) $$ [Hcr HO Hat]
  · isplitr; · iexact HI
    isplitl [Hcr]; · iexact Hcr
    isplitl [HO]; · iexact HO
    isplitr
    · iapply (mayWait_owed d (.reg barS) 1 (le_of_eq (lv_kcell d none ())) (due1 d) (above1 d (by omega)))
      iapply (ctx_lev X W K) $$ Hc
    iexact Hat
  iintro ⟨HO, Hat, -, Hp⟩
  have hr : bigSep ((ringRd X W).duties ((d : Thread nD τ), SemLoc.reg barS) 0 \ ∅)
      (fun b => (ringRd X W).payload ((d : Thread nD τ), SemLoc.reg barS) 0 b) = iprop(barPay d false ∗ barPay d true ∗ emp) := rest_bar X W d
  ihave Hp' := (Entails.of_eq hr) $$ Hp
  icases Hp' with ⟨H₁, H₂, -⟩
  rw [wp_ret]
  imod (Rounds.cell_close ER (ringRd X W) (Set.mem_univ (K (d, cBar))) (fun h => h) (R := 0 + 1) (duties_later X W (kcell (d, cBar)))) $$ [Hat] with Hz
  · isplitr; · iexact HI
    iexact Hat
  imodintro
  iapply HQ
  isplitl [H₁]; · iexact H₁
  isplitl [H₂]; · iexact H₂
  isplitl [Hz]; · iexact Hz
  isplitl [Hv]; · iexact Hv
  iexists _; iexact HO

end Ring

end Cert.RingMM

end
-- ==== Proof.Steps.lean ====
/-
The steps of the kernel, each as a rule: what a device holds before it and what it holds after.
-/
module

public import proofs.«01_k».proof.Proof.Transfer

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

section Touch

variable {d : Dev nD}

theorem loadX_step (o : Fin 2 → Nat) (ho : ∀ a, o a + S1024x1024.size a ≤ S4096x1024.size a) (V : Vec F S4096x1024 .bf16)
    (Q : Vec F S1024x1024 .bf16 → sProp 𝕄) :
    has d xM fullShare V ⊢ iprop((has d xM fullShare V -∗ Q (xB o ho V)) -∗ wpd d (loadX o ho) Q) :=
  load_has xM (Rect.unit (s := S4096x1024) o S1024x1024.size ho) _ fullShare V Q
theorem loadW_step (j : Fin 8) (V : Vec F S1024x8192 .bf16) (Q : Vec F S1024x1024 .bf16 → sProp 𝕄) :
    has d wM fullShare V ⊢ iprop((has d wM fullShare V -∗ Q (wB j V)) -∗ wpd d (loadW j) Q) :=
  load_has wM (Rect.unit (s := S1024x8192) (wof j) S1024x1024.size (wof_inb j)) _ fullShare V Q
theorem loadS_step (j : Fin 8) (V : Vec F S1024x1024 .bf16) (Q : Vec F S1x1024x1024 .bf16 → sProp 𝕄) :
    has d (sAt j) fullShare V ⊢ iprop((has d (sAt j) fullShare V -∗ Q (unsq V)) -∗ wpd d (loadS j) Q) :=
  load_slot sM (Rect.unit (s := S8x1024x1024) (sof j) S1x1024x1024.size (sof_inb j)) (fun _ => rfl) squeezes_S1x1024x1024_S1024x1024 _ fullShare V Q
theorem loadS_free (j : Fin 8) (Q : Vec F S1x1024x1024 .bf16 → sProp 𝕄) :
    free d (sAt j) ⊢ iprop((∀ v, free d (sAt j) -∗ Q v) -∗ wpd d (loadS j) Q) :=
  load_free sM (Rect.unit (s := S8x1024x1024) (sof j) S1x1024x1024.size (sof_inb j)) (fun _ => rfl) squeezes_S1x1024x1024_S1024x1024 _ Q
theorem storeS_step (j : Fin 8) (v : FVec F S1x1024x1024 .bf16) (Q : PUnit → sProp 𝕄) :
    free d (sAt j) ⊢ iprop((has d (sAt j) fullShare (sq v) -∗ Q ⟨⟩) -∗ wpd d (storeS j v) Q) :=
  store_slot sM (Rect.unit (s := S8x1024x1024) (sof j) S1x1024x1024.size (sof_inb j)) (fun _ => rfl) squeezes_S1x1024x1024_S1024x1024 v _ _ Q

theorem zero2 : (![0, 0] : Fin 2 → Nat) = fun _ => 0 := funext fun a => by revert a; decide
theorem zero3 : (![0, 0, 0] : Fin 3 → Nat) = fun _ => 0 := funext fun a => by revert a; decide

theorem loadT_step (V : Vec F S1024x1024 .bf16) (Q : Vec F S1024x1024 .bf16 → sProp 𝕄) :
    has d tM fullShare V ⊢ iprop((has d tM fullShare V -∗ Q V) -∗ wpd d loadT Q) :=
  load_whole tM zero2 inb_S1024x1024_S1024x1024_0_0 _ fullShare V Q
theorem loadT_free (Q : Vec F S1024x1024 .bf16 → sProp 𝕄) :
    free d tM ⊢ iprop((∀ v, free d tM -∗ Q v) -∗ wpd d loadT Q) :=
  load_any tM (Rect.unit (s := S1024x1024) ![0, 0] S1024x1024.size inb_S1024x1024_S1024x1024_0_0) _ Q
theorem storeT_step (v : FVec F S1024x1024 .bf16) (Q : PUnit → sProp 𝕄) :
    free d tM ⊢ iprop((has d tM fullShare v -∗ Q ⟨⟩) -∗ wpd d (storeT v) Q) :=
  store_whole tM zero2 inb_S1024x1024_S1024x1024_0_0 v _ _ Q
theorem loadQ_step (V : Vec F S1024x1024 .fp8e4m3) (Q : Vec F S1024x1024 .fp8e4m3 → sProp 𝕄) :
    has d qM fullShare V ⊢ iprop((has d qM fullShare V -∗ Q V) -∗ wpd d loadQ Q) :=
  load_whole qM zero2 inb_S1024x1024_S1024x1024_0_0 _ fullShare V Q
theorem loadQ_free (Q : Vec F S1024x1024 .fp8e4m3 → sProp 𝕄) :
    free d qM ⊢ iprop((∀ v, free d qM -∗ Q v) -∗ wpd d loadQ Q) :=
  load_any qM (Rect.unit (s := S1024x1024) ![0, 0] S1024x1024.size inb_S1024x1024_S1024x1024_0_0) _ Q
theorem storeQ_step (v : FVec F S1024x1024 .fp8e4m3) (Q : PUnit → sProp 𝕄) :
    free d qM ⊢ iprop((has d qM fullShare v -∗ Q ⟨⟩) -∗ wpd d (storeQ v) Q) :=
  store_whole qM zero2 inb_S1024x1024_S1024x1024_0_0 v _ _ Q

end Touch

section Ring

variable (X : Dev nD → Vec F S4096x1024 .bf16) (W : Dev nD → Vec F S1024x8192 .bf16) (K : Dev nD × Cx → ℕ)
variable (d : Dev nD)

/-- What a device has at hand in every step: its operands, its two local buffers, and its debts. -/
def core (l : List (Dev nD × Cx)) : sProp 𝕄 :=
  iprop(has d xM fullShare (X d) ∗ has d wM fullShare (W d) ∗ free d tM ∗ free d qM ∗ run d l)

/-- Before a transfer: the places at the send cell `x` and the receive cell `y`, the duties of the transfer
    to device `e`, and the credit for what will come in. -/
def chG (x y : (Fin 4 × Fin 3 × Fin 8) ⊕ (Bool × Fin 3)) (e : Dev nD) : sProp 𝕄 :=
  iprop(atPos ER (kcell (d, some x)) 0 ∅ 0 ∗ atPos ER (kcell (d, some y)) 0 ∅ 0
    ∗ dutyTok ER (kcell (d, some x)) 0 false ∗ dutyTok ER (kcell (e, some y)) 0 false
    ∗ cred (tallyAt (kcell (d, some y)) () (amt (some y))))
/-- A cell whose transfer is under way. -/
def fl (x : (Fin 4 × Fin 3 × Fin 8) ⊕ (Bool × Fin 3)) : sProp 𝕄 :=
  iprop(cred (tallyAt (kcell (d, some x)) () (amt (some x))) ∗ atPos ER (kcell (d, some x)) 0 ∅ 0)
/-- A cell at rest. -/
def off (x : Cx) : sProp 𝕄 := semVal (kcell (d, x)) 0

def rsG (h : Fin 3) (j : Fin 8) : sProp 𝕄 := chG d (.inl (0, h, j)) (.inl (1, h, j)) (dstN j d)
def agG (h : Fin 3) (j : Fin 8) : sProp 𝕄 := chG d (.inl (2, h, j)) (.inl (3, h, j)) (dstN j d)
def axG (k : Fin 3) : sProp 𝕄 := chG d (.inr (false, k)) (.inr (true, k)) (axDst k d)

variable {d}

/-- A step over the tiles of a list. -/
theorem loop_rule {α : Type} (f : Fin 8 → α → ℙ α) (g : α → Fin 8 → α) (I : List (Fin 8) → sProp 𝕄) (Pre Post : Fin 8 → sProp 𝕄)
    (h : ∀ (j : Fin 8) (l : List (Fin 8)) (a : α) (Q : α → sProp 𝕄),
      iprop(ctx X W K ∗ I (j :: l) ∗ Pre j) ⊢ iprop((I l ∗ Post j -∗ Q (g a j)) -∗ wpd d (f j a) Q)) :
    ∀ (l : List (Fin 8)) (a : α) (Q : α → sProp 𝕄),
      iprop(ctx X W K ∗ I l ∗ sepL l Pre) ⊢ iprop((I [] ∗ sepL l Post -∗ Q (l.foldl g a)) -∗ wpd d (loop f l a) Q)
  | [], a, Q => by
    rw [List.foldl_nil]
    iintro ⟨-, HI, H⟩
    iintro HQ
    iapply wpd_ret
    iapply HQ
    isplitl [HI]; · iexact HI
    iexact H
  | j :: l, a, Q => by
    rw [sepL_cons, sepL_cons, List.foldl_cons]
    iintro ⟨#Hc, HI, Hj, Hl⟩
    iintro HQ
    iapply wpd_bind
    iapply (h j l a) $$ [HI Hj]
    · isplitr; · iexact Hc
      isplitl [HI]; · iexact HI
      iexact Hj
    iintro ⟨HI, Hj⟩
    iapply (loop_rule f g I Pre Post h l (g a j) Q) $$ [HI Hl]
    · isplitr; · iexact Hc
      isplitl [HI]; · iexact HI
      iexact Hl
    iintro ⟨HI, Hl⟩
    iapply HQ
    isplitl [HI]; · iexact HI
    isplitl [Hj]; · iexact Hj
    iexact Hl

theorem pay_RS (d : Dev nD) (h : Fin 3) (j : Fin 8) : pay X W d (cRS h j) = free d (sAt j) := rfl
theorem pay_RR (d : Dev nD) (h : Fin 3) (j : Fin 8) :
    pay X W d (cRR h j) = iprop(has d (cAt h j) fullShare (SV X W h j (srcN j d)) ∗ relay h j d) := rfl
theorem pay_GR (d : Dev nD) (h : Fin 3) (j : Fin 8) :
    pay X W d (cGR h j) = has d (gSl (chunk h.succ j d) j) fullShare (GV X W (chunk h.succ j d) j) := rfl

/-! ## The first ring -/

theorem rsSend_step (h : Fin 3) (j : Fin 8) (l : List (Dev nD × Cx)) (Q : PUnit → sProp 𝕄) :
    iprop(ctx X W K ∗ has d (sAt j) fullShare (SV X W h j d) ∗ free (dstN j d) (cAt h j) ∗ relay h j (dstN j d) ∗ run d (payRS d h j :: l) ∗ rsG d h j)
      ⊢ iprop((fl d (.inl (0, h, j)) ∗ fl d (.inl (1, h, j)) ∗ run d l -∗ Q ⟨⟩) -∗ wpd d (rsSend h j d) Q) := by
  unfold rsG chG
  iintro ⟨#Hc, Hs, Hd, HR, HO, Hx, Hy, Htx, Hty, Hcy⟩
  iintro HQ
  unfold rsSend
  iapply (send_cell X W K (.inl (0, h, j)) (.inl (1, h, j)) (dstN j d) (rsS h j) (rsR h j) rfl rfl (sAt j) (cAt h j) _ _ _ _ rfl rfl fullShare
      (SV X W h j d) (relay h j (dstN j d)) l (has_free d (sAt j) _) (Entails.of_eq (by rw [pay_RR, src_dst]))) $$ [Hs Hd HR HO Htx Hty]
  · isplitr; · iexact Hc
    isplitl [Hs]; · iexact Hs
    isplitl [Hd]; · iexact Hd
    isplitl [HR]; · iexact HR
    isplitl [HO]; · iexact HO
    isplitl [Htx]; · iexact Htx
    iexact Hty
  iintro ⟨Hcr, HO⟩
  iapply HQ
  unfold fl
  isplitl [Hcr Hx]
  · isplitl [Hcr]; · iexact Hcr
    iexact Hx
  isplitl [Hcy Hy]
  · isplitl [Hcy]; · iexact Hcy
    iexact Hy
  iexact HO

def rsPre0 (d : Dev nD) (j : Fin 8) : sProp 𝕄 :=
  iprop(free d (sAt j) ∗ rsG d 0 j ∗ free (dstN j d) (cAt 0 j) ∗ relay 0 j (dstN j d))
/-- A hop of the first ring under way. -/
def rsFl (d : Dev nD) (h : Fin 3) (j : Fin 8) : sProp 𝕄 := iprop(fl d (.inl (0, h, j)) ∗ fl d (.inl (1, h, j)))
/-- Its cells afterwards. -/
def rsOff (d : Dev nD) (h : Fin 3) (j : Fin 8) : sProp 𝕄 := iprop(off d (cRS h j) ∗ off d (cRR h j))

theorem rsFirst_step (j : Fin 8) (l : List (Fin 8)) (r : List (Dev nD × Cx)) (a : PUnit) (Q : PUnit → sProp 𝕄) :
    iprop(ctx X W K ∗ core X W d ((j :: l).map (payRS d 0) ++ r) ∗ rsPre0 d j)
      ⊢ iprop((core X W d (l.map (payRS d 0) ++ r) ∗ rsFl d 0 j -∗ Q ⟨⟩) -∗ wpd d (rsFirst d j a) Q) := by
  unfold core rsPre0 rsFl
  iintro ⟨#Hc, ⟨Hx, Hw, Ht, Hq, HO⟩, Hs, HG, Hd, HR⟩
  iintro HQ
  unfold rsFirst
  iapply wpd_bind
  iapply (loadX_step _ _ (X d)) $$ Hx; iintro Hx
  iapply wpd_bind
  iapply (loadW_step j (W d)) $$ Hw; iintro Hw
  iapply wpd_bind
  iapply (loadS_free j) $$ Hs; iintro %v Hs
  iapply wpd_bind
  iapply (storeS_step j) $$ Hs; iintro Hs
  iapply (rsSend_step X W K 0 j (l.map (payRS d 0) ++ r)) $$ [Hs Hd HR HO HG]
  · isplitr; · iexact Hc
    isplitl [Hs]; · iexact Hs
    isplitl [Hd]; · iexact Hd
    isplitl [HR]; · iexact HR
    isplitl [HO]; · iexact HO
    iexact HG
  iintro ⟨H₁, H₂, HO⟩
  iapply HQ
  isplitr [H₁ H₂]
  · isplitl [Hx]; · iexact Hx
    isplitl [Hw]; · iexact Hw
    isplitl [Ht]; · iexact Ht
    isplitl [Hq]; · iexact Hq
    iexact HO
  isplitl [H₁]; · iexact H₁
  iexact H₂

theorem relay_pos (h : Fin 3) (hh : h ≠ 0) (j : Fin 8) (e : Dev nD) : (relay h j e : sProp 𝕄) = iprop(emp) := by
  unfold relay; rw [if_neg fun c => hh c.1]

theorem fetchC_step (h : Fin 3) (j : Fin 8) (V : Vec F S1024x1024 .bf16) (l : List (Dev nD × Cx)) (hl : Above 0 l) (Q : PUnit → sProp 𝕄) :
    iprop(ctx X W K ∗ has d (cAt h j) fullShare V ∗ free d tM ∗ run d l)
      ⊢ iprop((has d (cAt h j) fullShare V ∗ has d tM fullShare V ∗ run d l -∗ Q ⟨⟩) -∗ wpd d (fetchC h j) Q) :=
  (BI.sep_mono (ctx_lev X W K) (BI.Entails.refl _)).trans (copy (cAt h j) tM _ _ _ _ _ NB_pos fullShare V l hl Q)

/-- Waiting for a hop of the first ring. -/
theorem rsWait_step (h : Fin 3) (j : Fin 8) (l : List (Dev nD × Cx)) (hl : Above (2 + h.val) l) (Q : PUnit → sProp 𝕄) :
    iprop(ctx X W K ∗ rsFl d h j ∗ free d tM ∗ run d l)
      ⊢ iprop((free d (sAt j) ∗ has d tM fullShare (SV X W h j (srcN j d)) ∗ relay h j d ∗ rsOff d h j ∗ run d l -∗ Q ⟨⟩)
          -∗ wpd d (rsWait h j) Q) := by
  unfold rsFl fl rsOff off
  iintro ⟨#Hc, ⟨⟨HcS, HaS⟩, HcR, HaR⟩, Ht, HO⟩
  iintro HQ
  unfold rsWait
  iapply wpd_bind
  iapply (wait_cell X W K (.inl (0, h, j)) (rsS h j) rfl (cAt h j) (sAt j) _ _ rfl l (fun p hp => lt_of_le_of_lt (Nat.zero_le _) (hl p hp))) $$ [HcS HaS HO]
  · isplitr; · iexact Hc
    isplitl [HcS]; · iexact HcS
    isplitl [HaS]; · iexact HaS
    iexact HO
  iintro ⟨Hs, HzS, HO⟩
  iapply wpd_bind
  iapply (wait_cell X W K (.inl (1, h, j)) (rsR h j) rfl (sAt j) (cAt h j) _ _ rfl l hl) $$ [HcR HaR HO]
  · isplitr; · iexact Hc
    isplitl [HcR]; · iexact HcR
    isplitl [HaR]; · iexact HaR
    iexact HO
  iintro ⟨Hp, HzR, HO⟩
  ihave Hp' := (Entails.of_eq (pay_RR X W d h j)) $$ Hp
  icases Hp' with ⟨Hc', HR⟩
  ihave Hs := (Entails.of_eq (pay_RS X W d h j)) $$ Hs
  iapply (fetchC_step X W K h j _ l (fun p hp => lt_of_le_of_lt (Nat.zero_le _) (hl p hp))) $$ [Hc' Ht HO]
  · isplitr; · iexact Hc
    isplitl [Hc']; · iexact Hc'
    isplitl [Ht]; · iexact Ht
    iexact HO
  iintro ⟨-, Ht, HO⟩
  iapply HQ
  isplitl [Hs]; · iexact Hs
  isplitl [Ht]; · iexact Ht
  isplitl [HR]; · iexact HR
  isplitr [HO]
  · isplitl [HzS]; · iexact HzS
    iexact HzR
  iexact HO

def rsPre (d : Dev nD) (h h' : Fin 3) (j : Fin 8) : sProp 𝕄 :=
  iprop(rsFl d h j ∗ rsG d h' j ∗ free (dstN j d) (cAt h' j))
def rsPost (d : Dev nD) (h h' : Fin 3) (j : Fin 8) : sProp 𝕄 :=
  iprop(rsFl d h' j ∗ relay h j d ∗ rsOff d h j)

theorem rsMid_step (h h' : Fin 3) (hh : h' ≠ 0)
    (hV : ∀ j, sq (accum (PP X W h j d) (SV X W h j (srcN j d))) = SV X W h' j d) (r : List (Dev nD × Cx))
    (hr : Above (2 + h.val) r) (hn : h.val < h'.val)
    (j : Fin 8) (l : List (Fin 8)) (a : PUnit) (Q : PUnit → sProp 𝕄) :
    iprop(ctx X W K ∗ core X W d ((j :: l).map (payRS d h') ++ r) ∗ rsPre d h h' j)
      ⊢ iprop((core X W d (l.map (payRS d h') ++ r) ∗ rsPost d h h' j -∗ Q ⟨⟩) -∗ wpd d (rsMid d h h' j a) Q) := by
  have hl : Above (2 + h.val) ((j :: l).map (payRS d h') ++ r) := (Above.map fun j => by simp only [payRS, lvx]; omega).append hr
  unfold core rsPre rsPost
  iintro ⟨#Hc, ⟨Hx, Hw, Ht, Hq, HO⟩, Hf, HG, Hd⟩
  iintro HQ
  unfold rsMid
  iapply wpd_bind
  iapply (loadX_step _ _ (X d)) $$ Hx; iintro Hx
  iapply wpd_bind
  iapply (loadW_step j (W d)) $$ Hw; iintro Hw
  iapply wpd_bind
  iapply (rsWait_step X W K h j _ hl) $$ [Hf Ht HO]
  · isplitr; · iexact Hc
    isplitl [Hf]; · iexact Hf
    isplitl [Ht]; · iexact Ht
    iexact HO
  iintro ⟨Hs, Ht, HR, Hz, HO⟩
  iapply wpd_bind
  iapply (loadT_step _) $$ Ht; iintro Ht
  iapply wpd_bind
  iapply (loadS_free j) $$ Hs; iintro %v Hs
  iapply wpd_bind
  iapply (storeS_step j) $$ Hs; iintro Hs
  iapply (rsSend_step X W K h' j (l.map (payRS d h') ++ r)) $$ [Hs Hd HO HG]
  · isplitr; · iexact Hc
    isplitl [Hs]
    · rw [← hV]; iexact Hs
    isplitl [Hd]; · iexact Hd
    isplitr; · rw [relay_pos h' hh]; iempintro
    isplitl [HO]; · iexact HO
    iexact HG
  iintro ⟨H₁, H₂, HO⟩
  iapply HQ
  isplitr [H₁ H₂ HR Hz]
  · isplitl [Hx]; · iexact Hx
    isplitl [Hw]; · iexact Hw
    isplitl [Ht]; · iapply (has_free d tM _); iexact Ht
    isplitl [Hq]; · iexact Hq
    iexact HO
  isplitl [H₁ H₂]
  · unfold rsFl
    isplitl [H₁]; · iexact H₁
    iexact H₂
  isplitl [HR]; · iexact HR
  iexact Hz

def rsEnd (d : Dev nD) (j : Fin 8) : sProp 𝕄 := iprop(has d (sAt j) fullShare (FV X W j d) ∗ rsOff d 2 j)

theorem rsLast_step (r : List (Dev nD × Cx)) (hr : Above 4 r) (j : Fin 8) (l : List (Fin 8)) (a : F .f32) (Q : F .f32 → sProp 𝕄) :
    iprop(ctx X W K ∗ core X W d r ∗ rsFl d 2 j)
      ⊢ iprop((core X W d r ∗ rsEnd X W d j -∗ Q (maxUp a (PP X W 2 j d) (SV X W 2 j (srcN j d)))) -∗ wpd d (rsLast d j a) Q) := by
  unfold core rsEnd PP
  iintro ⟨#Hc, ⟨Hx, Hw, Ht, Hq, HO⟩, Hf⟩
  iintro HQ
  unfold rsLast
  iapply wpd_bind
  iapply (loadX_step _ _ (X d)) $$ Hx; iintro Hx
  iapply wpd_bind
  iapply (loadW_step j (W d)) $$ Hw; iintro Hw
  iapply wpd_bind
  iapply (rsWait_step X W K 2 j r hr) $$ [Hf Ht HO]
  · isplitr; · iexact Hc
    isplitl [Hf]; · iexact Hf
    isplitl [Ht]; · iexact Ht
    iexact HO
  iintro ⟨Hs, Ht, -, Hz, HO⟩
  iapply wpd_bind
  iapply (loadT_step _) $$ Ht; iintro Ht
  iapply wpd_bind
  iapply (loadS_free j) $$ Hs; iintro %v Hs
  iapply wpd_bind
  iapply (storeS_step j) $$ Hs; iintro Hs
  iapply wpd_ret
  iapply HQ
  isplitr [Hs Hz]
  · isplitl [Hx]; · iexact Hx
    isplitl [Hw]; · iexact Hw
    isplitl [Ht]; · iapply (has_free d tM _); iexact Ht
    isplitl [Hq]; · iexact Hq
    iexact HO
  isplitl [Hs]; · iexact Hs
  iexact Hz

/-! ## The exchange of the maxima -/

theorem aAt_congr {o o' : Fin 3 → Nat} (e : o = o') (ho : ∀ a, o a + S1x8x128.size a ≤ S4x8x128.size a)
    (ho' : ∀ a, o' a + S1x8x128.size a ≤ S4x8x128.size a) : aAt o ho = aAt o' ho' := by subst e; rfl
theorem off4_eq (d : Dev nD) : k0_off4 d = rof d := by revert d; decide +kernel
theorem off5_eq (d : Dev nD) : k0_off5 d = rof d := by revert d; decide +kernel

theorem axSend_step (k : Fin 3) (l : List (Dev nD × Cx)) (Q : PUnit → sProp 𝕄) :
    iprop(ctx X W K ∗ has d (aRow d) (axq k) (rowV X W d) ∗ free (axDst k d) (aRow d) ∗ run d (payAX d k :: l) ∗ axG d k)
      ⊢ iprop((fl d (.inr (false, k)) ∗ fl d (.inr (true, k)) ∗ run d l -∗ Q ⟨⟩) -∗ wpd d (axSend d (axDst k d) k) Q) := by
  unfold axG chG
  have e : aRow d = aAt (k0_off5 d) (k0_off5_inb d) := aAt_congr (off5_eq d).symm _ _
  iintro ⟨#Hc, Hs, Hd, HO, Hx, Hy, Htx, Hty, Hcy⟩
  iintro HQ
  unfold axSend
  iapply (send_cell X W K (.inr (false, k)) (.inr (true, k)) (axDst k d) (axS k) (axR k) rfl rfl (aAt (k0_off5 d) (k0_off5_inb d))
      (aAt (k0_off5 d) (k0_off5_inb d)) _ _ _ _ rfl rfl (axq k) (rowV X W d) iprop(emp) l
      (by rw [← e]; exact Entails.of_eq rfl)
      (by
        rw [← e]
        have h : has (axDst k d) (aRow d) fullShare (rowV X W d) = pay X W (axDst k d) (cAR k) := by
          show _ = has (axDst k d) (aRow (axSrc k (axDst k d))) fullShare (rowV X W (axSrc k (axDst k d)))
          rw [axSrc_dst]
        iintro ⟨H, -⟩
        iapply (Entails.of_eq h) $$ H)) $$ [Hs Hd HO Htx Hty]
  · isplitr; · iexact Hc
    rw [← e]
    isplitl [Hs]; · iexact Hs
    isplitl [Hd]; · iexact Hd
    isplitr; · iempintro
    isplitl [HO]; · iexact HO
    isplitl [Htx]; · iexact Htx
    iexact Hty
  iintro ⟨Hcr, HO⟩
  iapply HQ
  unfold fl
  isplitl [Hcr Hx]
  · isplitl [Hcr]; · iexact Hcr
    iexact Hx
  isplitl [Hcy Hy]
  · isplitl [Hcy]; · iexact Hcy
    iexact Hy
  iexact HO

theorem axWaitS_step (k : Fin 3) (l : List (Dev nD × Cx)) (hl : Above 0 l) (Q : PUnit → sProp 𝕄) :
    iprop(ctx X W K ∗ fl d (.inr (false, k)) ∗ run d l)
      ⊢ iprop((has d (aRow d) (axq k) (rowV X W d) ∗ off d (cAS k) ∗ run d l -∗ Q ⟨⟩) -∗ wpd d (axWaitS d k) Q) := by
  unfold fl off axWaitS
  iintro ⟨#Hc, ⟨HcS, HaS⟩, HO⟩
  iintro HQ
  iapply (wait_cell X W K (.inr (false, k)) (axS k) rfl (aAt (k0_off5 d) (k0_off5_inb d)) (aAt (k0_off5 d) (k0_off5_inb d)) _ _ rfl l hl) $$ [HcS HaS HO]
  · isplitr; · iexact Hc
    isplitl [HcS]; · iexact HcS
    isplitl [HaS]; · iexact HaS
    iexact HO
  iintro ⟨Hp, Hz, HO⟩
  ihave Hp' := (Entails.of_eq (show pay X W d (cAS k) = has d (aRow d) (axq k) (rowV X W d) from rfl)) $$ Hp
  iapply HQ
  isplitl [Hp']; · iexact Hp'
  isplitl [Hz]; · iexact Hz
  iexact HO

theorem axWaitR_step (k : Fin 3) (l : List (Dev nD × Cx)) (hl : Above 5 l) (Q : PUnit → sProp 𝕄) :
    iprop(ctx X W K ∗ fl d (.inr (true, k)) ∗ run d l)
      ⊢ iprop((has d (aRow (axSrc k d)) fullShare (rowV X W (axSrc k d)) ∗ off d (cAR k) ∗ run d l -∗ Q ⟨⟩) -∗ wpd d (axWaitR d k) Q) := by
  unfold fl off axWaitR
  iintro ⟨#Hc, ⟨HcS, HaS⟩, HO⟩
  iintro HQ
  iapply (wait_cell X W K (.inr (true, k)) (axR k) rfl (aAt (k0_off5 d) (k0_off5_inb d))
      (aAt (k0_off6 d (BitVec.ofNat 32 (1 + k.val))) (k0_off6_inb d k)) _ _ rfl l hl) $$ [HcS HaS HO]
  · isplitr; · iexact Hc
    isplitl [HcS]; · iexact HcS
    isplitl [HaS]; · iexact HaS
    iexact HO
  iintro ⟨Hp, Hz, HO⟩
  ihave Hp' := (Entails.of_eq (show pay X W d (cAR k) = has d (aRow (axSrc k d)) fullShare (rowV X W (axSrc k d)) from rfl)) $$ Hp
  iapply HQ
  isplitl [Hp']; · iexact Hp'
  isplitl [Hz]; · iexact Hz
  iexact HO

/-! ## The second ring -/

theorem gAt_congr {o o' : Fin 4 → Nat} (e : o = o') (ho : ∀ a, o a + S1x1x1024x1024.size a ≤ S4x8x1024x1024.size a)
    (ho' : ∀ a, o' a + S1x1x1024x1024.size a ≤ S4x8x1024x1024.size a) : gAt o ho = gAt o' ho' := by subst e; rfl
theorem oAt_congr {o o' : Fin 2 → Nat} (e : o = o') (ho : ∀ a, o a + S1024x1024.size a ≤ S4096x8192.size a)
    (ho' : ∀ a, o' a + S1024x1024.size a ≤ S4096x8192.size a) : oAt o ho = oAt o' ho' := by subst e; rfl

/-- Sending slot `(chunk h, j)` on, half of it lent. -/
theorem agSend_step (r : Fin 4) (h : Fin 3) (hrh : r = h.castSucc) (j : Fin 8) (l : List (Dev nD × Cx)) (Q : PUnit → sProp 𝕄) :
    iprop(ctx X W K ∗ has d (gSl (chunk r j d) j) fullShare.left (GV X W (chunk r j d) j) ∗ free (dstN j d) (gSl (chunk r j d) j)
        ∗ run d (payAG d h j :: l) ∗ agG d h j)
      ⊢ iprop((fl d (.inl (2, h, j)) ∗ fl d (.inl (3, h, j)) ∗ run d l -∗ Q ⟨⟩) -∗ wpd d (agSend r h j d) Q) := by
  unfold agG chG
  have e : gSl (chunk r j d) j = gAt (ghop r j d) (ghop_inb r j d) := gAt_congr (ghop_eq r j d).symm _ _
  iintro ⟨#Hc, Hs, Hd, HO, Hx, Hy, Htx, Hty, Hcy⟩
  iintro HQ
  unfold agSend
  iapply (send_cell X W K (.inl (2, h, j)) (.inl (3, h, j)) (dstN j d) (agS h j) (agR h j) rfl rfl (gAt (ghop r j d) (ghop_inb r j d))
      (gAt (ghop r j d) (ghop_inb r j d)) _ _ _ _ rfl rfl fullShare.left (GV X W (chunk r j d) j) iprop(emp) l
      (by iintro -; iempintro)
      (by
        rw [← e]
        have h' : has (dstN j d) (gSl (chunk r j d) j) fullShare (GV X W (chunk r j d) j) = pay X W (dstN j d) (cGR h j) := by
          rw [pay_GR, ← chunk_step, hrh]
        iintro ⟨H, -⟩
        iapply (Entails.of_eq h') $$ H)) $$ [Hs Hd HO Htx Hty]
  · isplitr; · iexact Hc
    rw [← e]
    isplitl [Hs]; · iexact Hs
    isplitl [Hd]; · iexact Hd
    isplitr; · iempintro
    isplitl [HO]; · iexact HO
    isplitl [Htx]; · iexact Htx
    iexact Hty
  iintro ⟨Hcr, HO⟩
  iapply HQ
  unfold fl
  isplitl [Hcr Hx]
  · isplitl [Hcr]; · iexact Hcr
    iexact Hx
  isplitl [Hcy Hy]
  · isplitl [Hcy]; · iexact Hcy
    iexact Hy
  iexact HO

theorem has_halves (m : Dev nD) {sp : Space} {s : Shape} {e : EltTy} (M : Memref sig .tc sp s e) (V : Vec F s e) :
    has m M fullShare V ⊢ iprop(has m M fullShare.left V ∗ has m M fullShare.right V) := by
  unfold has
  exact (owns_halves _ _ _ _).1

def agPre0 (d : Dev nD) (j : Fin 8) : sProp 𝕄 :=
  iprop(has d (sAt j) fullShare (FV X W j d) ∗ free d (gSl (chunk 0 j d) j) ∗ agG d 0 j ∗ free (dstN j d) (gSl (chunk 0 j d) j))
/-- A hop of the second ring under way. -/
def agFl (d : Dev nD) (h : Fin 3) (j : Fin 8) : sProp 𝕄 := iprop(fl d (.inl (2, h, j)) ∗ fl d (.inl (3, h, j)))
def agPost0 (d : Dev nD) (j : Fin 8) : sProp 𝕄 :=
  iprop(has d (sAt j) fullShare (FV X W j d) ∗ has d (gSl (chunk 0 j d) j) fullShare.right (GV X W (chunk 0 j d) j) ∗ agFl d 0 j)

theorem agFirst_step (r : List (Dev nD × Cx)) (hr : Above 0 r) (j : Fin 8) (l : List (Fin 8)) (a : PUnit) (Q : PUnit → sProp 𝕄) :
    iprop(ctx X W K ∗ core X W d ((j :: l).map (payAG d 0) ++ r) ∗ agPre0 X W d j)
      ⊢ iprop((core X W d (l.map (payAG d 0) ++ r) ∗ agPost0 X W d j -∗ Q ⟨⟩) -∗ wpd d (agFirst d (k0_pay81 (AV X W)) j a) Q) := by
  have hl : Above 0 ((j :: l).map (payAG d 0) ++ r) := (Above.map fun j => by simp only [payAG, lvx]; omega).append hr
  have e : gSl (chunk 0 j d) j = gAt (gown j d) (gown_inb j d) := gAt_congr (gown_eq j d).symm _ _
  have eV : GV X W (chunk 0 j d) j = k0_pay82 (k0_pay81 (AV X W)) (unsq (FV X W j d)) := by unfold GV; rw [owner_chunk]
  unfold core agPre0 agPost0
  iintro ⟨#Hc, ⟨Hx, Hw, Ht, Hq, HO⟩, Hs, Hg, HG, Hd⟩
  iintro HQ
  unfold agFirst
  iapply wpd_bind
  iapply (loadS_step j _) $$ Hs; iintro Hs
  iapply wpd_bind
  iapply loadQ_free $$ Hq; iintro %v Hq
  iapply wpd_bind
  iapply (storeQ_step _) $$ Hq; iintro Hq
  iapply wpd_bind
  rw [← eV]
  unfold putG
  iapply (copy qM (gAt (gown j d) (gown_inb j d)) _ _ _ _ _ NG_pos fullShare _ _ hl) $$ [Hq Hg HO]
  · isplitr; · iapply (ctx_lev X W K); iexact Hc
    isplitl [Hq]; · iexact Hq
    isplitl [Hg]; · rw [← e]; iexact Hg
    iexact HO
  iintro ⟨Hq, Hg, HO⟩
  rw [← e]
  ihave Hg' := (has_halves d _ _) $$ Hg
  icases Hg' with ⟨Hgl, Hgr⟩
  iapply (agSend_step X W K 0 0 rfl j (l.map (payAG d 0) ++ r)) $$ [Hgl Hd HO HG]
  · isplitr; · iexact Hc
    isplitl [Hgl]; · iexact Hgl
    isplitl [Hd]; · iexact Hd
    isplitl [HO]; · iexact HO
    iexact HG
  iintro ⟨H₁, H₂, HO⟩
  iapply HQ
  isplitr [H₁ H₂ Hs Hgr]
  · isplitl [Hx]; · iexact Hx
    isplitl [Hw]; · iexact Hw
    isplitl [Ht]; · iexact Ht
    isplitl [Hq]; · iapply (has_free d qM _); iexact Hq
    iexact HO
  isplitl [Hs]; · iexact Hs
  isplitl [Hgr]; · iexact Hgr
  unfold agFl
  isplitl [H₁]; · iexact H₁
  iexact H₂

/-- Reading back a slot, multiplying it out and writing its block of the result. -/
theorem expand_step (c : Fin 4) (j : Fin 8) (q : PosShare TreeShare) (o : Fin 4 → Nat) (ho : ∀ a, o a + S1x1x1024x1024.size a ≤ S4x8x1024x1024.size a)
    (hw : (Rect.unit (s := S4x8x1024x1024) o S1x1x1024x1024.size ho).WholeWords (EltTy.packing .fp8e4m3))
    (o' : Fin 2 → Nat) (ho' : ∀ a, o' a + S1024x1024.size a ≤ S4096x8192.size a)
    (hw' : (Rect.unit (s := S4096x8192) o' S1024x1024.size ho').WholeWords (EltTy.packing .bf16))
    (eo : o = gof c j) (eo' : o' = oof c j) (l : List (Dev nD × Cx)) (hl : Above 0 l) (Q : PUnit → sProp 𝕄) :
    iprop(ctx X W K ∗ core X W d l ∗ has d (gSl c j) q (GV X W c j) ∗ free d (oSl c j))
      ⊢ iprop((core X W d l ∗ has d (oSl c j) fullShare (OV X W c j) -∗ Q ⟨⟩)
          -∗ wpd d (expand (k0_pay80 (AV X W)) o ho hw o' ho' hw') Q) := by
  subst eo eo'
  unfold core
  iintro ⟨#Hc, ⟨Hx, Hw, Ht, Hq, HO⟩, Hg, Ho⟩
  iintro HQ
  ihave #Hlev := (ctx_lev X W K) $$ Hc
  unfold expand
  iapply wpd_bind
  unfold getG
  iapply (copy (gSl c j) qM _ _ _ _ _ NG_pos q _ l hl) $$ [Hq Hg HO]
  · isplitr; · iexact Hlev
    isplitl [Hg]; · iexact Hg
    isplitl [Hq]; · iexact Hq
    iexact HO
  iintro ⟨-, Hq, HO⟩
  iapply wpd_bind
  iapply (loadQ_step _) $$ Hq; iintro Hq
  iapply wpd_bind
  iapply loadT_free $$ Ht; iintro %v Ht
  iapply wpd_bind
  iapply (storeT_step _) $$ Ht; iintro Ht
  unfold putO
  iapply (copy tM (oSl c j) _ _ _ _ _ NB_pos fullShare _ l hl) $$ [Ht Ho HO]
  · isplitr; · iexact Hlev
    isplitl [Ht]; · iexact Ht
    isplitl [Ho]; · iexact Ho
    iexact HO
  iintro ⟨Ht, Ho, HO⟩
  iapply HQ
  isplitr [Ho]
  · isplitl [Hx]; · iexact Hx
    isplitl [Hw]; · iexact Hw
    isplitl [Ht]; · iapply (has_free d tM _); iexact Ht
    isplitl [Hq]; · iapply (has_free d qM _); iexact Hq
    iexact HO
  unfold OV
  iexact Ho

def ownPre (d : Dev nD) (j : Fin 8) : sProp 𝕄 :=
  iprop(has d (gSl (chunk 0 j d) j) fullShare.right (GV X W (chunk 0 j d) j) ∗ free d (oSl (chunk 0 j d) j))
/-- The finished block of step `r`. -/
def outAt (d : Dev nD) (r : Fin 4) (j : Fin 8) : sProp 𝕄 := has d (oSl (chunk r j d) j) fullShare (OV X W (chunk r j d) j)

theorem agOwn_step (r : List (Dev nD × Cx)) (hr : Above 0 r) (j : Fin 8) (l : List (Fin 8)) (a : PUnit) (Q : PUnit → sProp 𝕄) :
    iprop(ctx X W K ∗ core X W d r ∗ ownPre X W d j)
      ⊢ iprop((core X W d r ∗ outAt X W d 0 j -∗ Q ⟨⟩) -∗ wpd d (agOwn d (k0_pay80 (AV X W)) j a) Q) := by
  unfold ownPre outAt agOwn
  exact expand_step X W K (chunk 0 j d) j _ _ _ _ _ _ _ (gown_eq j d) (oown_eq j d) r hr Q

theorem agWaitR_step (r : Fin 4) (h : Fin 3) (j : Fin 8) (l : List (Dev nD × Cx)) (hl : Above (6 + h.val) l) (Q : PUnit → sProp 𝕄) :
    iprop(ctx X W K ∗ fl d (.inl (3, h, j)) ∗ run d l)
      ⊢ iprop((has d (gSl (chunk h.succ j d) j) fullShare (GV X W (chunk h.succ j d) j) ∗ off d (cGR h j) ∗ run d l -∗ Q ⟨⟩) -∗ wpd d (agWaitR d r h j) Q) := by
  unfold fl off agWaitR
  iintro ⟨#Hc, ⟨HcS, HaS⟩, HO⟩
  iintro HQ
  iapply (wait_cell X W K (.inl (3, h, j)) (agR h j) rfl (gAt (ghop r j d) (ghop_inb r j d)) (gAt (ghop r j d) (ghop_inb r j d)) _ _ rfl l hl) $$ [HcS HaS HO]
  · isplitr; · iexact Hc
    isplitl [HcS]; · iexact HcS
    isplitl [HaS]; · iexact HaS
    iexact HO
  iintro ⟨Hp, Hz, HO⟩
  ihave Hp' := (Entails.of_eq (pay_GR X W d h j)) $$ Hp
  iapply HQ
  isplitl [Hp']; · iexact Hp'
  isplitl [Hz]; · iexact Hz
  iexact HO

theorem agWaitS_step (r : Fin 4) (h : Fin 3) (o : List (Dev nD × Cx)) (ho : Above 0 o) (j : Fin 8) (l : List (Fin 8)) (a : PUnit) (Q : PUnit → sProp 𝕄) :
    iprop(ctx X W K ∗ core X W d o ∗ fl d (.inl (2, h, j)))
      ⊢ iprop((core X W d o ∗ off d (cGS h j) -∗ Q ⟨⟩) -∗ wpd d (agWaitS d r h j a) Q) := by
  unfold fl off agWaitS core
  iintro ⟨#Hc, ⟨Hx, Hw, Ht, Hq, HO⟩, HcS, HaS⟩
  iintro HQ
  iapply (wait_cell X W K (.inl (2, h, j)) (agS h j) rfl (gAt (ghop r j d) (ghop_inb r j d)) (gAt (ghop r j d) (ghop_inb r j d)) _ _ rfl o ho) $$ [HcS HaS HO]
  · isplitr; · iexact Hc
    isplitl [HcS]; · iexact HcS
    isplitl [HaS]; · iexact HaS
    iexact HO
  iintro ⟨-, Hz, HO⟩
  iapply HQ
  isplitr [Hz]
  · isplitl [Hx]; · iexact Hx
    isplitl [Hw]; · iexact Hw
    isplitl [Ht]; · iexact Ht
    isplitl [Hq]; · iexact Hq
    iexact HO
  iexact Hz

def agPre (d : Dev nD) (h h' : Fin 3) (j : Fin 8) : sProp 𝕄 :=
  iprop(fl d (.inl (3, h, j)) ∗ agG d h' j ∗ free (dstN j d) (gSl (chunk h'.castSucc j d) j) ∗ free d (oSl (chunk h.succ j d) j))
def agPost (d : Dev nD) (h h' : Fin 3) (j : Fin 8) : sProp 𝕄 :=
  iprop(agFl d h' j ∗ off d (cGR h j) ∗ outAt X W d h.succ j)

theorem agMid_step (r r' : Fin 4) (h h' : Fin 3) (e₁ : r' = h.succ) (e₂ : r' = h'.castSucc) (o : List (Dev nD × Cx)) (ho : Above (6 + h.val) o)
    (hn : h.val < h'.val) (j : Fin 8) (l : List (Fin 8)) (a : PUnit) (Q : PUnit → sProp 𝕄) :
    iprop(ctx X W K ∗ core X W d ((j :: l).map (payAG d h') ++ o) ∗ agPre d h h' j)
      ⊢ iprop((core X W d (l.map (payAG d h') ++ o) ∗ agPost X W d h h' j -∗ Q ⟨⟩) -∗ wpd d (agMid d (k0_pay80 (AV X W)) r h h' r' j a) Q) := by
  have hl : Above (6 + h.val) ((j :: l).map (payAG d h') ++ o) := (Above.map fun j => by simp only [payAG, lvx]; omega).append ho
  have hl' : Above (6 + h.val) (l.map (payAG d h') ++ o) := (Above.map fun j => by simp only [payAG, lvx]; omega).append ho
  have hl0 : Above 0 (l.map (payAG d h') ++ o) := fun p hp => lt_of_le_of_lt (Nat.zero_le _) (hl' p hp)
  unfold agPre agPost agMid outAt
  rw [← e₂, ← e₁]
  iintro ⟨#Hc, Hcore, Hf, HG, Hd, Ho⟩
  iintro HQ
  unfold core
  icases Hcore with ⟨Hx, Hw, Ht, Hq, HO⟩
  iapply wpd_bind
  iapply (agWaitR_step X W K r h j _ hl) $$ [Hf HO]
  · isplitr; · iexact Hc
    isplitl [Hf]; · iexact Hf
    iexact HO
  rw [← e₁]
  iintro ⟨Hg, Hz, HO⟩
  ihave Hg' := (has_halves d _ _) $$ Hg
  icases Hg' with ⟨Hgl, Hgr⟩
  iapply wpd_bind
  iapply (agSend_step X W K r' h' e₂ j (l.map (payAG d h') ++ o)) $$ [Hgl Hd HO HG]
  · isplitr; · iexact Hc
    isplitl [Hgl]; · iexact Hgl
    isplitl [Hd]; · iexact Hd
    isplitl [HO]; · iexact HO
    iexact HG
  iintro ⟨H₁, H₂, HO⟩
  iapply (expand_step X W K (chunk r' j d) j _ _ _ _ _ _ _ (ghop_eq r' j d) ((ohop_eq h j d).trans (by rw [e₁])) _ hl0) $$ [Hx Hw Ht Hq HO Hgr Ho]
  · isplitr; · iexact Hc
    isplitr [Hgr Ho]
    · unfold core
      isplitl [Hx]; · iexact Hx
      isplitl [Hw]; · iexact Hw
      isplitl [Ht]; · iexact Ht
      isplitl [Hq]; · iexact Hq
      iexact HO
    isplitl [Hgr]; · iexact Hgr
    iexact Ho
  iintro ⟨Hcore, Ho⟩
  iapply HQ
  isplitl [Hcore]; · unfold core; iexact Hcore
  unfold agFl
  isplitl [H₁ H₂]
  · isplitl [H₁]; · iexact H₁
    iexact H₂
  isplitl [Hz]; · iexact Hz
  iexact Ho

def lastPre (d : Dev nD) (j : Fin 8) : sProp 𝕄 := iprop(fl d (.inl (3, 2, j)) ∗ free d (oSl (chunk 3 j d) j))
def lastPost (d : Dev nD) (j : Fin 8) : sProp 𝕄 := iprop(off d (cGR 2 j) ∗ outAt X W d 3 j)

theorem agLast_step (j : Fin 8) (l : List (Fin 8)) (a : PUnit) (Q : PUnit → sProp 𝕄) :
    iprop(ctx X W K ∗ core X W d [] ∗ lastPre d j)
      ⊢ iprop((core X W d [] ∗ lastPost X W d j -∗ Q ⟨⟩) -∗ wpd d (agLast d (k0_pay80 (AV X W)) j a) Q) := by
  unfold lastPre lastPost agLast outAt
  iintro ⟨#Hc, Hcore, Hf, Ho⟩
  iintro HQ
  unfold core
  icases Hcore with ⟨Hx, Hw, Ht, Hq, HO⟩
  iapply wpd_bind
  iapply (agWaitR_step X W K 2 2 j [] (Above.nil _)) $$ [Hf HO]
  · isplitr; · iexact Hc
    isplitl [Hf]; · iexact Hf
    iexact HO
  iintro ⟨Hg, Hz, HO⟩
  iapply (expand_step X W K (chunk 3 j d) j fullShare _ _ _ _ _ _ (ghop_eq 3 j d) (ohop_eq 2 j d) [] (Above.nil _)) $$ [Hx Hw Ht Hq HO Hg Ho]
  · isplitr; · iexact Hc
    isplitr [Hg Ho]
    · unfold core
      isplitl [Hx]; · iexact Hx
      isplitl [Hw]; · iexact Hw
      isplitl [Ht]; · iexact Ht
      isplitl [Hq]; · iexact Hq
      iexact HO
    isplitl [Hg]; · iexact Hg
    iexact Ho
  iintro ⟨Hcore, Ho⟩
  iapply HQ
  isplitl [Hcore]; · unfold core; iexact Hcore
  isplitl [Hz]; · iexact Hz
  iexact Ho

end Ring

end Cert.RingMM

end
-- ==== Proof.Cuts.lean ====
/-
The buffers cut into the slots that the steps work on, and put together again.
-/
module

public import proofs.«01_k».proof.Proof.Steps
public import Idealize.ShloMosaic.Lib.Pipeline.ValueKit.Geometry

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

section Cut

variable {d : Dev nD} {sp : Space} {s : Shape} {e : EltTy} (m : Memref sig .tc sp s e) {T T' : Type} [Fintype T] [DecidableEq T]
variable (o : T → Fin s.rank → Nat) (size : Fin s.rank → Nat) (inb : ∀ t a, o t a + size a ≤ s.size a)
variable (g : s.Idx → T') (c : T → T') (hc : Function.Bijective c)
variable (hg : ∀ t i, (∀ a, o t a ≤ (i a : ℕ) ∧ (i a : ℕ) < o t a + size a) ↔ g i = c t)

/-- The `t`-th piece. -/
abbrev piece (t : T) : Rect s := Rect.unit (o t) size (inb t)

include hc hg in
theorem pieces_disjoint : ∀ t t', t ≠ t' → Disjoint (piece o size inb t).set (piece o size inb t').set := by
  intro t t' ht
  rw [Finset.disjoint_left]
  intro i hi hi'
  rw [Rect.mem_set_unit] at hi hi'
  exact ht (hc.1 (((hg t i).mp hi).symm.trans ((hg t' i).mp hi')))
include hc hg in
theorem pieces_cover : (Finset.univ : Finset T).biUnion (fun t => (piece o size inb t).set) = Finset.univ := by
  ext i
  simp only [Finset.mem_biUnion, Finset.mem_univ, true_and, iff_true]
  obtain ⟨t, ht⟩ := hc.2 (g i)
  exact ⟨t, Rect.mem_set_unit.mpr ((hg t i).mpr ht.symm)⟩

include hc hg in
theorem cut_free : free d m ⊢ (bigSep Finset.univ fun t => free d (m.slice (piece o size inb t) (fun _ => rfl)) : sProp 𝕄) := by
  unfold free
  have h := ownsSat_rects (Ix := Unit) (Name := ℕ) (U := UU) (Lvl := ℕ) (Val := Elt F) (d.tc : Thread nD τ) m fullShare (piece o size inb) (fun _ _ => rfl)
    (pieces_disjoint o size inb g c hc hg) (pieces_cover o size inb g c hc hg) (Ψ := fun _ _ => True)
  rw [show (fun X : s.Idx → Elt F e => ∀ t : T, True) = fun _ => True from funext fun _ => propext ⟨fun _ => trivial, fun _ _ => trivial⟩] at h
  exact h
include hc hg in
theorem join_free [∀ e, Nonempty (Elt F e)] :
    (bigSep Finset.univ fun t => free d (m.slice (piece o size inb t) (fun _ => rfl)) : sProp 𝕄) ⊢ free d m := by
  unfold free
  have h := ownsSat_of_rects (Ix := Unit) (Name := ℕ) (U := UU) (Lvl := ℕ) (Val := Elt F) (d.tc : Thread nD τ) m fullShare (piece o size inb) (fun _ _ => rfl)
    (pieces_disjoint o size inb g c hc hg) (pieces_cover o size inb g c hc hg) (Ψ := fun _ _ => True)
  rw [show (fun X : s.Idx → Elt F e => ∀ t : T, True) = fun _ => True from funext fun _ => propext ⟨fun _ => trivial, fun _ _ => trivial⟩] at h
  exact h
include hc hg in
theorem join_has [∀ e, Nonempty (Elt F e)] (V : Vec F s e) :
    (bigSep Finset.univ fun t => has d (m.slice (piece o size inb t) (fun _ => rfl)) fullShare (fun i => V ((piece o size inb t).emb i)) : sProp 𝕄)
      ⊢ has d m fullShare V := by
  unfold has
  exact owns_of_rects (d.tc : Thread nD τ) m fullShare (piece o size inb) (fun _ _ => rfl)
    (pieces_disjoint o size inb g c hc hg) (pieces_cover o size inb g c hc hg) V

end Cut

instance elt_nonempty (e : EltTy) : Nonempty (Elt F e) := inferInstance

section Slots

variable {d : Dev nD}

/-- A slot with axes dropped is the same memory. -/
theorem free_squeeze {sp : Space} {s s' : Shape} {e : EltTy} (m : Memref sig .tc sp s e) (h : s.Squeezes s') :
    (free d m : sProp 𝕄) ⊢ free d (m.squeeze s' h) := by
  unfold free ownsSat
  iintro ⟨%f, -, H⟩
  iexists f
  isplitr; · ipureintro; trivial
  rw [show (m.squeeze s' h).view.set = m.view.set from View.set_reshape m.view h.numel_eq]
  iexact H
theorem free_unsqueeze {sp : Space} {s s' : Shape} {e : EltTy} (m : Memref sig .tc sp s e) (h : s.Squeezes s') :
    (free d (m.squeeze s' h) : sProp 𝕄) ⊢ free d m := by
  unfold free ownsSat
  iintro ⟨%f, -, H⟩
  iexists f
  isplitr; · ipureintro; trivial
  rw [show (m.squeeze s' h).view.set = m.view.set from View.set_reshape m.view h.numel_eq]
  iexact H

theorem tiles_nodup : tiles.Nodup := by decide
theorem tiles_all : tiles.toFinset = Finset.univ := by decide
theorem hops_nodup : hops.Nodup := by decide
theorem hops_all : hops.toFinset = Finset.univ := by decide
/-- The steps of the second ring. -/
def rounds4 : List (Fin 4) := [⟨0, by decide⟩, ⟨1, by decide⟩, ⟨2, by decide⟩, ⟨3, by decide⟩]
theorem rounds4_nodup : rounds4.Nodup := by decide
theorem rounds4_all : rounds4.toFinset = Finset.univ := by decide

theorem sof_iff (j : Fin 8) (i : S8x1024x1024.Idx) :
    (∀ a, sof j a ≤ (i a : ℕ) ∧ (i a : ℕ) < sof j a + S1x1024x1024.size a) ↔ (⟨i 0, (i 0).isLt⟩ : Fin 8) = j := by
  constructor
  · intro h
    have h0 := h 0
    have e1 : sof j 0 = j.val := rfl
    have e2 : S1x1024x1024.size 0 = 1 := rfl
    exact Fin.ext (by show (i 0 : ℕ) = j.val; omega)
  · rintro rfl a
    have hlt := (i a).isLt
    revert hlt
    match a with
    | ⟨0, _⟩ => intro _; exact ⟨le_refl _, Nat.lt_succ_self _⟩
    | ⟨1, _⟩ => intro h; exact ⟨Nat.zero_le _, by rw [show sof ⟨i 0, (i 0).isLt⟩ ⟨1, _⟩ = 0 from rfl, Nat.zero_add]; exact h⟩
    | ⟨2, _⟩ => intro h; exact ⟨Nat.zero_le _, by rw [show sof ⟨i 0, (i 0).isLt⟩ ⟨2, _⟩ = 0 from rfl, Nat.zero_add]; exact h⟩

theorem cut_s : free d sM ⊢ (sepL tiles fun j => free d (sAt j) : sProp 𝕄) := by
  rw [← bigSep_eq_sepL tiles tiles_nodup tiles_all]
  exact (cut_free sM sof S1x1024x1024.size sof_inb (fun i => (⟨i 0, (i 0).isLt⟩ : Fin 8)) id Function.bijective_id sof_iff).trans
    (bigSep_mono fun j _ => free_squeeze _ squeezes_S1x1024x1024_S1024x1024)
theorem join_s : (sepL tiles fun j => free d (sAt j) : sProp 𝕄) ⊢ free d sM := by
  rw [← bigSep_eq_sepL tiles tiles_nodup tiles_all]
  exact (bigSep_mono fun j _ => free_unsqueeze _ squeezes_S1x1024x1024_S1024x1024).trans
    (join_free sM sof S1x1024x1024.size sof_inb (fun i => (⟨i 0, (i 0).isLt⟩ : Fin 8)) id Function.bijective_id sof_iff)

theorem cof_iff (t : Fin 8 × Fin 3) (i : S3x8x1024x1024.Idx) :
    (∀ a, cof t.2 t.1 a ≤ (i a : ℕ) ∧ (i a : ℕ) < cof t.2 t.1 a + S1x1x1024x1024.size a)
      ↔ ((⟨i 1, (i 1).isLt⟩, ⟨i 0, (i 0).isLt⟩) : Fin 8 × Fin 3) = t := by
  constructor
  · intro h
    have h0 := h 0
    have h1 := h 1
    have e1 : cof t.2 t.1 0 = t.2.val := rfl
    have e2 : S1x1x1024x1024.size 0 = 1 := rfl
    have e3 : cof t.2 t.1 1 = t.1.val := rfl
    have e4 : S1x1x1024x1024.size 1 = 1 := rfl
    exact Prod.ext (Fin.ext (by show (i 1 : ℕ) = t.1.val; omega)) (Fin.ext (by show (i 0 : ℕ) = t.2.val; omega))
  · rintro rfl a
    have hlt := (i a).isLt
    revert hlt
    match a with
    | ⟨0, _⟩ => intro _; exact ⟨le_refl _, Nat.lt_succ_self _⟩
    | ⟨1, _⟩ => intro _; exact ⟨le_refl _, Nat.lt_succ_self _⟩
    | ⟨2, _⟩ => intro h; exact ⟨Nat.zero_le _, by rw [show cof ⟨i 0, (i 0).isLt⟩ ⟨i 1, (i 1).isLt⟩ ⟨2, _⟩ = 0 from rfl, Nat.zero_add]; exact h⟩
    | ⟨3, _⟩ => intro h; exact ⟨Nat.zero_le _, by rw [show cof ⟨i 0, (i 0).isLt⟩ ⟨i 1, (i 1).isLt⟩ ⟨3, _⟩ = 0 from rfl, Nat.zero_add]; exact h⟩

theorem cut_c : free d cM ⊢ (bigSep Finset.univ fun j : Fin 8 => sepL hops fun h => free d (cAt h j) : sProp 𝕄) := by
  have h := cut_free (F := F) (d := d) cM (fun t : Fin 8 × Fin 3 => cof t.2 t.1) S1x1x1024x1024.size (fun t => cof_inb t.2 t.1)
    (fun i => ((⟨i 1, (i 1).isLt⟩, ⟨i 0, (i 0).isLt⟩) : Fin 8 × Fin 3)) id Function.bijective_id cof_iff
  rw [bigSep_univ_prod] at h
  refine h.trans (bigSep_mono fun j _ => ?_)
  rw [← bigSep_eq_sepL hops hops_nodup hops_all]
  exact bigSep_mono fun k _ => free_squeeze _ squeezes_S1x1x1024x1024_S1024x1024

/-- A tile and a step of the second ring stand for a tile and a block of it. -/
theorem chunk_bij (d : Dev nD) : Function.Bijective fun t : Fin 8 × Fin 4 => ((t.1, chunk t.2 t.1 d) : Fin 8 × Fin 4) := by
  rw [← Finite.injective_iff_bijective]
  rintro ⟨j, r⟩ ⟨j', r'⟩ h
  obtain rfl : j = j' := (Prod.ext_iff.mp h).1
  exact congrArg _ (chunk_inj j d (Prod.ext_iff.mp h).2)

theorem gof_iff (d : Dev nD) (t : Fin 8 × Fin 4) (i : S4x8x1024x1024.Idx) :
    (∀ a, gof (chunk t.2 t.1 d) t.1 a ≤ (i a : ℕ) ∧ (i a : ℕ) < gof (chunk t.2 t.1 d) t.1 a + S1x1x1024x1024.size a)
      ↔ ((⟨i 1, (i 1).isLt⟩, ⟨i 0, (i 0).isLt⟩) : Fin 8 × Fin 4) = (t.1, chunk t.2 t.1 d) := by
  generalize chunk t.2 t.1 d = c
  generalize t.1 = j
  constructor
  · intro h
    have h0 := h 0
    have h1 := h 1
    have e1 : gof c j 0 = c.val := rfl
    have e2 : S1x1x1024x1024.size 0 = 1 := rfl
    have e3 : gof c j 1 = j.val := rfl
    have e4 : S1x1x1024x1024.size 1 = 1 := rfl
    exact Prod.ext (Fin.ext (by show (i 1 : ℕ) = j.val; omega)) (Fin.ext (by show (i 0 : ℕ) = c.val; omega))
  · intro h a
    obtain ⟨rfl, rfl⟩ := Prod.ext_iff.mp h
    have hlt := (i a).isLt
    revert hlt
    match a with
    | ⟨0, _⟩ => intro _; exact ⟨le_refl _, Nat.lt_succ_self _⟩
    | ⟨1, _⟩ => intro _; exact ⟨le_refl _, Nat.lt_succ_self _⟩
    | ⟨2, _⟩ => intro h; exact ⟨Nat.zero_le _, by rw [show gof ⟨i 0, (i 0).isLt⟩ ⟨i 1, (i 1).isLt⟩ ⟨2, _⟩ = 0 from rfl, Nat.zero_add]; exact h⟩
    | ⟨3, _⟩ => intro h; exact ⟨Nat.zero_le _, by rw [show gof ⟨i 0, (i 0).isLt⟩ ⟨i 1, (i 1).isLt⟩ ⟨3, _⟩ = 0 from rfl, Nat.zero_add]; exact h⟩

theorem cut_g : free d gM ⊢ (bigSep Finset.univ fun j : Fin 8 => sepL rounds4 fun r => free d (gSl (chunk r j d) j) : sProp 𝕄) := by
  have h := cut_free (F := F) (d := d) gM (fun t : Fin 8 × Fin 4 => gof (chunk t.2 t.1 d) t.1) S1x1x1024x1024.size (fun t => gof_inb _ _)
    (fun i => ((⟨i 1, (i 1).isLt⟩, ⟨i 0, (i 0).isLt⟩) : Fin 8 × Fin 4)) (fun t => (t.1, chunk t.2 t.1 d)) (chunk_bij d) (gof_iff d)
  rw [bigSep_univ_prod] at h
  refine h.trans (bigSep_mono fun j _ => ?_)
  rw [← bigSep_eq_sepL rounds4 rounds4_nodup rounds4_all]
  exact bigSep_mono fun r _ => free_squeeze _ squeezes_S1x1x1024x1024_S1024x1024

theorem oof_iff (d : Dev nD) (t : Fin 8 × Fin 4) (i : S4096x8192.Idx) :
    (∀ a, oof (chunk t.2 t.1 d) t.1 a ≤ (i a : ℕ) ∧ (i a : ℕ) < oof (chunk t.2 t.1 d) t.1 a + S1024x1024.size a)
      ↔ ((⟨(i 1).val / 1024, Nat.div_lt_of_lt_mul (i 1).isLt⟩, ⟨(i 0).val / 1024, Nat.div_lt_of_lt_mul (i 0).isLt⟩) : Fin 8 × Fin 4)
          = (t.1, chunk t.2 t.1 d) := by
  generalize chunk t.2 t.1 d = c
  generalize t.1 = j
  constructor
  · intro h
    have h0 := h 0
    have h1 := h 1
    have e1 : oof c j 0 = 1024 * c.val := rfl
    have e2 : S1024x1024.size 0 = 1024 := rfl
    have e3 : oof c j 1 = 1024 * j.val := rfl
    have e4 : S1024x1024.size 1 = 1024 := rfl
    exact Prod.ext (Fin.ext (by show (i 1 : ℕ) / 1024 = j.val; omega)) (Fin.ext (by show (i 0 : ℕ) / 1024 = c.val; omega))
  · intro h a
    obtain ⟨rfl, rfl⟩ := Prod.ext_iff.mp h
    match a with
    | ⟨0, _⟩ =>
      show 1024 * ((i 0 : ℕ) / 1024) ≤ (i 0 : ℕ) ∧ (i 0 : ℕ) < 1024 * ((i 0 : ℕ) / 1024) + 1024
      omega
    | ⟨1, _⟩ =>
      show 1024 * ((i 1 : ℕ) / 1024) ≤ (i 1 : ℕ) ∧ (i 1 : ℕ) < 1024 * ((i 1 : ℕ) / 1024) + 1024
      omega

theorem cut_o : free d oM ⊢ (sepL tiles fun j : Fin 8 => sepL rounds4 fun r => free d (oSl (chunk r j d) j) : sProp 𝕄) := by
  have h := cut_free (F := F) (d := d) oM (fun t : Fin 8 × Fin 4 => oof (chunk t.2 t.1 d) t.1) S1024x1024.size (fun t => oof_inb _ _)
    (fun i => ((⟨(i 1).val / 1024, Nat.div_lt_of_lt_mul (i 1).isLt⟩, ⟨(i 0).val / 1024, Nat.div_lt_of_lt_mul (i 0).isLt⟩) : Fin 8 × Fin 4))
    (fun t => (t.1, chunk t.2 t.1 d)) (chunk_bij d) (oof_iff d)
  rw [bigSep_univ_prod, bigSep_eq_sepL tiles tiles_nodup tiles_all] at h
  refine h.trans (sepL_mono fun j => ?_)
  rw [← bigSep_eq_sepL rounds4 rounds4_nodup rounds4_all]
  exact bigSep_mono fun r _ => BI.Entails.refl _

variable (X : Dev nD → Vec F S4096x1024 .bf16) (W : Dev nD → Vec F S1024x8192 .bf16)

theorem OUT_block (c : Fin 4) (j : Fin 8) (i : S1024x1024.Idx) :
    OUT X W ((Rect.unit (s := S4096x8192) (oof c j) S1024x1024.size (oof_inb c j)).emb i) = OV X W c j i := by
  have h0 : (i 0).val < 1024 := (i 0).isLt
  have h1 : (i 1).val < 1024 := (i 1).isLt
  have e0 : ((Rect.unit (s := S4096x8192) (oof c j) S1024x1024.size (oof_inb c j)).emb i 0 : ℕ) = 1024 * c.val + (i 0).val :=
    ValueKit.rect_emb_unit_val (s := S4096x8192) (oof c j) S1024x1024.size (oof_inb c j) i 0
  have e1 : ((Rect.unit (s := S4096x8192) (oof c j) S1024x1024.size (oof_inb c j)).emb i 1 : ℕ) = 1024 * j.val + (i 1).val :=
    ValueKit.rect_emb_unit_val (s := S4096x8192) (oof c j) S1024x1024.size (oof_inb c j) i 1
  have key : ∀ (c' : Fin 4) (j' : Fin 8) (z : S1024x1024.Idx), c' = c → j' = j → z = i → OV X W c' j' z = OV X W c j i := by
    rintro _ _ _ rfl rfl rfl; rfl
  refine key _ _ _ (Fin.ext ?_) (Fin.ext ?_) (funext fun a => ?_)
  · show _ / 1024 = c.val
    rw [e0]; omega
  · show _ / 1024 = j.val
    rw [e1]; omega
  · match a with
    | ⟨0, _⟩ => exact Fin.ext ((congrArg (· % 1024) e0).trans (show (1024 * c.val + (i 0).val) % 1024 = (i 0).val by omega))
    | ⟨1, _⟩ => exact Fin.ext ((congrArg (· % 1024) e1).trans (show (1024 * j.val + (i 1).val) % 1024 = (i 1).val by omega))

theorem join_o : (sepL tiles fun j : Fin 8 => sepL rounds4 fun r => has d (oSl (chunk r j d) j) fullShare (OV X W (chunk r j d) j) : sProp 𝕄)
    ⊢ has d oM fullShare (OUT X W) := by
  have h := join_has (F := F) (d := d) oM (fun t : Fin 8 × Fin 4 => oof (chunk t.2 t.1 d) t.1) S1024x1024.size (fun t => oof_inb _ _)
    (fun i => ((⟨(i 1).val / 1024, Nat.div_lt_of_lt_mul (i 1).isLt⟩, ⟨(i 0).val / 1024, Nat.div_lt_of_lt_mul (i 0).isLt⟩) : Fin 8 × Fin 4))
    (fun t => (t.1, chunk t.2 t.1 d)) (chunk_bij d) (oof_iff d) (OUT X W)
  rw [bigSep_univ_prod, bigSep_eq_sepL tiles tiles_nodup tiles_all] at h
  refine (sepL_mono fun j => ?_).trans h
  rw [← bigSep_eq_sepL rounds4 rounds4_nodup rounds4_all]
  refine bigSep_mono fun r _ => ?_
  exact Entails.of_eq <| congrArg (fun v : Vec F S1024x1024 .bf16 => has d (oSl (chunk r j d) j) fullShare v) (funext fun i => (OUT_block X W (chunk r j d) j i).symm)

theorem rof_iff (e : Dev nD) (i : S4x8x128.Idx) :
    (∀ a, rof e a ≤ (i a : ℕ) ∧ (i a : ℕ) < rof e a + S1x8x128.size a) ↔ (⟨i 0, (i 0).isLt⟩ : Dev nD) = e := by
  constructor
  · intro h
    have h0 := h 0
    have e1 : rof e 0 = e.val := rfl
    have e2 : S1x8x128.size 0 = 1 := rfl
    exact Fin.ext (by show (i 0 : ℕ) = e.val; omega)
  · rintro rfl a
    have hlt := (i a).isLt
    revert hlt
    match a with
    | ⟨0, _⟩ => intro _; exact ⟨le_refl _, Nat.lt_succ_self _⟩
    | ⟨1, _⟩ => intro h; exact ⟨Nat.zero_le _, by rw [show rof ⟨i 0, (i 0).isLt⟩ ⟨1, _⟩ = 0 from rfl, Nat.zero_add]; exact h⟩
    | ⟨2, _⟩ => intro h; exact ⟨Nat.zero_le _, by rw [show rof ⟨i 0, (i 0).isLt⟩ ⟨2, _⟩ = 0 from rfl, Nat.zero_add]; exact h⟩

/-- The devices in the order in which `d`'s rows travel: its own, then those it has from the others. -/
def ringOf (d : Dev nD) : List (Dev nD) := [d, axSrc 0 d, axSrc 1 d, axSrc 2 d]
theorem ringOf_nodup (d : Dev nD) : (ringOf d).Nodup := by revert d; decide +kernel
theorem ringOf_all (d : Dev nD) : (ringOf d).toFinset = Finset.univ := by revert d; decide +kernel
/-- The devices as seen along the ring. -/
def roundOf (d : Dev nD) : List (Dev nD) := [d, leftN d, rightN d, rightN (rightN d)]
theorem roundOf_nodup (d : Dev nD) : (roundOf d).Nodup := by revert d; decide +kernel
theorem roundOf_all (d : Dev nD) : (roundOf d).toFinset = Finset.univ := by revert d; decide +kernel

theorem cut_a : free d aM ⊢ (sepL (roundOf d) fun e => free d (aRow e) : sProp 𝕄) := by
  rw [← bigSep_eq_sepL (roundOf d) (roundOf_nodup d) (roundOf_all d)]
  exact cut_free aM rof S1x8x128.size rof_inb (fun i => (⟨i 0, (i 0).isLt⟩ : Dev nD)) id Function.bijective_id rof_iff

theorem AV_row (e : Dev nD) (i : S1x8x128.Idx) :
    AV X W ((Rect.unit (s := S4x8x128) (rof e) S1x8x128.size (rof_inb e)).emb i) = AM X W e := by
  have h0 : (i 0).val < 1 := (i 0).isLt
  have e0 : ((Rect.unit (s := S4x8x128) (rof e) S1x8x128.size (rof_inb e)).emb i 0 : ℕ) = e.val + (i 0).val :=
    ValueKit.rect_emb_unit_val (s := S4x8x128) (rof e) S1x8x128.size (rof_inb e) i 0
  unfold AV
  exact congrArg (AM X W) (Fin.ext (e0.trans (by omega)))

theorem join_a : (sepL (ringOf d) fun e => has d (aRow e) fullShare (rowV X W e) : sProp 𝕄) ⊢ has d aM fullShare (AV X W) := by
  rw [← bigSep_eq_sepL (ringOf d) (ringOf_nodup d) (ringOf_all d)]
  refine BI.Entails.trans (bigSep_mono fun e _ => ?_)
    (join_has aM rof S1x8x128.size rof_inb (fun i => (⟨i 0, (i 0).isLt⟩ : Dev nD)) id Function.bijective_id rof_iff (AV X W))
  exact Entails.of_eq <| congrArg (fun v : Vec F S1x8x128 .f32 => has d (aRow e) fullShare v) (funext fun i => (AV_row X W e i).symm)

theorem lend_cut (j : Fin 8) : iprop((sepL hops fun h => free d (cAt h j)) ∗ (sepL rounds4 fun r => free d (gSl (chunk r j d) j)))
    ⊢ (iprop(lend d j ∗ free d (gSl (chunk 0 j d) j)) : sProp 𝕄) := by
  unfold lend hops rounds4 lend1
  simp only [sepL_cons, sepL_nil]
  iintro ⟨⟨C0, C1, C2, -⟩, ⟨G0, G1, G2, G3, -⟩⟩
  isplitr [G0]
  · isplitl [C0 G1]
    · isplitl [C0]; · iexact C0
      iexact G1
    isplitl [C1 G2]
    · isplitl [C1]; · iexact C1
      iexact G2
    isplitl [C2 G3]
    · isplitl [C2]; · iexact C2
      iexact G3
    iempintro
  · iexact G0

theorem sepL_append {ι : Type} {l l' : List ι} {Φ : ι → sProp 𝕄} : sepL (l ++ l') Φ ⊢ iprop(sepL l Φ ∗ sepL l' Φ) := by
  induction l with
  | nil =>
    iintro H
    isplitr; · iempintro
    iexact H
  | cons i l ih =>
    rw [List.cons_append, sepL_cons, sepL_cons]
    iintro ⟨Hi, H⟩
    ihave H := ih $$ H
    icases H with ⟨H, H'⟩
    isplitr [H']
    · isplitl [Hi]; · iexact Hi
      iexact H
    · iexact H'

theorem lend_tiles : iprop(free d cM ∗ free d gM)
    ⊢ (iprop(sepL rights (lend d) ∗ sepL lefts (lend d) ∗ sepL tiles fun j => free d (gSl (chunk 0 j d) j)) : sProp 𝕄) := by
  refine (BI.sep_mono cut_c cut_g).trans ?_
  rw [← bigSep_sep]
  refine (bigSep_mono fun j _ => lend_cut j).trans ?_
  rw [bigSep_sep']
  rw [bigSep_eq_sepL tiles tiles_nodup tiles_all fun j => free d (gSl (chunk 0 j d) j), bigSep_eq_sepL (rights ++ lefts) (by decide) (by decide) (lend d)]
  show iprop(sepL (rights ++ lefts) (lend d) ∗ sepL tiles fun j => free d (gSl (chunk 0 j d) j)) ⊢ iprop(_ ∗ _)
  iintro ⟨H, HG⟩
  ihave H := sepL_append $$ H
  icases H with ⟨HR, HL⟩
  isplitl [HR]; · iexact HR
  isplitl [HL]; · iexact HL
  iexact HG

end Slots

end Cert.RingMM

end
-- ==== Proof.Body.lean ====
/-
The whole body on one device, step after step.
-/
module

public import proofs.«01_k».proof.Proof.Cuts

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

variable (X : Dev nD → Vec F S4096x1024 .bf16) (W : Dev nD → Vec F S1024x8192 .bf16) (K : Dev nD × Cx → ℕ) {d : Dev nD}

/-! ## The exchange of the maxima -/

theorem dev27_eq (d : Dev nD) : (⟨k0_dev27 d, k0_dev27_lt d⟩ : Dev nD) = axDst 0 d := by revert d; decide +kernel
theorem dev28_eq (d : Dev nD) : (⟨k0_dev28 d, k0_dev28_lt d⟩ : Dev nD) = axDst 1 d := by revert d; decide +kernel
theorem dev29_eq (d : Dev nD) : (⟨k0_dev29 d, k0_dev29_lt d⟩ : Dev nD) = axDst 2 d := by revert d; decide +kernel

theorem has_split (m : Dev nD) {sp : Space} {s : Shape} {e : EltTy} (M : Memref sig .tc sp s e) (q : PosShare TreeShare) (V : Vec F s e) :
    has m M q V ⊢ (iprop(has m M q.left V ∗ has m M q.right V) : sProp 𝕄) := by
  unfold has
  exact (owns_halves _ _ _ _).1
theorem has_union (m : Dev nD) {sp : Space} {s : Shape} {e : EltTy} (M : Memref sig .tc sp s e) (q : PosShare TreeShare) (V : Vec F s e) :
    iprop(has m M q.left V ∗ has m M q.right V) ⊢ (has m M q V : sProp 𝕄) := by
  unfold has
  exact (owns_halves _ _ _ _).2

/-- The cells of the exchange at rest. -/
def axOff (d : Dev nD) : sProp 𝕄 := sepL hops fun k => iprop(off d (cAS k) ∗ off d (cAR k))
/-- The rows of the other devices it writes. -/
def axPre (d : Dev nD) : sProp 𝕄 := sepL hops fun k => iprop(free (axDst k d) (aRow d) ∗ axG d k)

theorem run_ax (d : Dev nD) : (run d (due4 d) : sProp 𝕄) = run d (payAX d 0 :: payAX d 1 :: payAX d 2 :: due5 d) := rfl

theorem exchange_step (Q : Vec F S4x8x128 .f32 → sProp 𝕄) :
    iprop(ctx X W K ∗ core X W d (due4 d) ∗ free d (aRow d) ∗ axPre d)
      ⊢ iprop((core X W d (due5 d) ∗ has d aM fullShare (AV X W) ∗ axOff d -∗ Q (AV X W)) -∗ wpd d (exchange d (AM X W d)) Q) := by
  have h5 : Above 5 (due5 d) := above5 d (by omega)
  have h0 : Above 0 (due5 d) := above5 d (by omega)
  have e4 : aRow d = aAt (k0_off4 d) (k0_off4_inb d) := aAt_congr (off4_eq d).symm _ _
  have er : (has d (aM.slice (Rect.unit (s := S4x8x128) (k0_off4 d) S1x8x128.size (k0_off4_inb d)) (fun _ => rfl)) fullShare (maxRow (AM X W d)) : sProp 𝕄)
      = has d (aRow d) fullShare (rowV X W d) := congrArg (fun m => has d m fullShare (rowV X W d)) e4.symm
  unfold core axPre axOff hops
  simp only [sepL_cons, sepL_nil]
  rw [run_ax]
  iintro ⟨#Hc, ⟨Hx, Hw, Ht, Hq, HO⟩, Ha, ⟨D0, G0⟩, ⟨D1, G1⟩, ⟨D2, G2⟩, -⟩
  iintro HQ
  unfold exchange
  rw [dev27_eq, dev28_eq, dev29_eq]
  ihave Ha := (Entails.of_eq (congrArg (fun m => free d m) e4)) $$ Ha
  unfold aAt
  iapply wpd_bind
  iapply (load_row aM (Rect.unit (s := S4x8x128) (k0_off4 d) S1x8x128.size (k0_off4_inb d)) (fun _ => rfl) _) $$ Ha
  iintro %_ Ha
  iapply wpd_bind
  iapply (store_row aM (Rect.unit (s := S4x8x128) (k0_off4 d) S1x8x128.size (k0_off4_inb d)) (fun _ => rfl) (maxRow (AM X W d)) _ _) $$ Ha
  iintro Ha
  ihave Ha := (Entails.of_eq er) $$ Ha
  ihave Ha := (has_split d (aRow d) fullShare (rowV X W d)) $$ Ha
  icases Ha with ⟨A0, Ha⟩
  ihave Ha := (has_split d (aRow d) fullShare.right (rowV X W d)) $$ Ha
  icases Ha with ⟨A1, A2⟩
  iapply wpd_bind
  iapply (axSend_step X W K 0 (payAX d 1 :: payAX d 2 :: due5 d)) $$ [A0 D0 HO G0]
  · isplitr; · iexact Hc
    isplitl [A0]; · iexact A0
    isplitl [D0]; · iexact D0
    isplitl [HO]; · iexact HO
    iexact G0
  iintro ⟨S0, R0, HO⟩
  iapply wpd_bind
  iapply (axSend_step X W K 1 (payAX d 2 :: due5 d)) $$ [A1 D1 HO G1]
  · isplitr; · iexact Hc
    isplitl [A1]; · iexact A1
    isplitl [D1]; · iexact D1
    isplitl [HO]; · iexact HO
    iexact G1
  iintro ⟨S1, R1, HO⟩
  iapply wpd_bind
  iapply (axSend_step X W K 2 (due5 d)) $$ [A2 D2 HO G2]
  · isplitr; · iexact Hc
    isplitl [A2]; · iexact A2
    isplitl [D2]; · iexact D2
    isplitl [HO]; · iexact HO
    iexact G2
  iintro ⟨S2, R2, HO⟩
  iapply wpd_bind
  iapply (axWaitS_step X W K 0 (due5 d) h0) $$ [S0 HO]
  · isplitr; · iexact Hc
    isplitl [S0]; · iexact S0
    iexact HO
  iintro ⟨A0, F0, HO⟩
  iapply wpd_bind
  iapply (axWaitS_step X W K 1 (due5 d) h0) $$ [S1 HO]
  · isplitr; · iexact Hc
    isplitl [S1]; · iexact S1
    iexact HO
  iintro ⟨A1, F1, HO⟩
  iapply wpd_bind
  iapply (axWaitS_step X W K 2 (due5 d) h0) $$ [S2 HO]
  · isplitr; · iexact Hc
    isplitl [S2]; · iexact S2
    iexact HO
  iintro ⟨A2, F2, HO⟩
  iapply wpd_bind
  iapply (axWaitR_step X W K 0 (due5 d) h5) $$ [R0 HO]
  · isplitr; · iexact Hc
    isplitl [R0]; · iexact R0
    iexact HO
  iintro ⟨B0, E0, HO⟩
  iapply wpd_bind
  iapply (axWaitR_step X W K 1 (due5 d) h5) $$ [R1 HO]
  · isplitr; · iexact Hc
    isplitl [R1]; · iexact R1
    iexact HO
  iintro ⟨B1, E1, HO⟩
  iapply wpd_bind
  iapply (axWaitR_step X W K 2 (due5 d) h5) $$ [R2 HO]
  · isplitr; · iexact Hc
    isplitl [R2]; · iexact R2
    iexact HO
  iintro ⟨B2, E2, HO⟩
  ihave Ha := (has_union d (aRow d) fullShare.right (rowV X W d)) $$ [A1 A2]
  · isplitl [A1]; · iexact A1
    iexact A2
  ihave Ha := (has_union d (aRow d) fullShare (rowV X W d)) $$ [A0 Ha]
  · isplitl [A0]; · iexact A0
    iexact Ha
  ihave Ha := (join_a (d := d) X W) $$ [Ha B0 B1 B2]
  · unfold ringOf
    simp only [sepL_cons, sepL_nil]
    isplitl [Ha]; · iexact Ha
    isplitl [B0]; · iexact B0
    isplitl [B1]; · iexact B1
    isplitl [B2]; · iexact B2
    iempintro
  iapply (load_whole aM zero3 inb_S4x8x128_S4x8x128_0_0_0 _ fullShare (AV X W)) $$ Ha
  iintro Ha
  iapply HQ
  isplitl [Hx Hw Ht Hq HO]
  · isplitl [Hx]; · iexact Hx
    isplitl [Hw]; · iexact Hw
    isplitl [Ht]; · iexact Ht
    isplitl [Hq]; · iexact Hq
    iexact HO
  isplitl [Ha]; · iexact Ha
  isplitl [F0 E0]
  · isplitl [F0]; · iexact F0
    iexact E0
  isplitl [F1 E1]
  · isplitl [F1]; · iexact F1
    iexact E1
  isplitl [F2 E2]
  · isplitl [F2]; · iexact F2
    iexact E2
  iempintro

/-! ## The loops -/

theorem rsFirst_loop (Q : PUnit → sProp 𝕄) :
    iprop(ctx X W K ∗ core X W d (due1 d) ∗ sepL tiles (rsPre0 d))
      ⊢ iprop((core X W d (due2 d) ∗ sepL tiles (rsFl d 0) -∗ Q ⟨⟩) -∗ wpd d (loop (rsFirst d) tiles ⟨⟩) Q) :=
  loop_rule X W K (rsFirst d) (fun _ _ => ⟨⟩) (fun l => core X W d (l.map (payRS d 0) ++ due2 d)) (rsPre0 d) (rsFl d 0)
    (fun j l a Q => rsFirst_step X W K j l (due2 d) a Q) tiles ⟨⟩ Q

theorem rsMid_loop (h h' : Fin 3) (hh : h' ≠ 0) (hV : ∀ j, sq (accum (PP X W h j d) (SV X W h j (srcN j d))) = SV X W h' j d)
    (r : List (Dev nD × Cx)) (hr : Above (2 + h.val) r) (hn : h.val < h'.val) (Q : PUnit → sProp 𝕄) :
    iprop(ctx X W K ∗ core X W d (tiles.map (payRS d h') ++ r) ∗ sepL tiles (rsPre d h h'))
      ⊢ iprop((core X W d r ∗ sepL tiles (rsPost d h h') -∗ Q ⟨⟩) -∗ wpd d (loop (rsMid d h h') tiles ⟨⟩) Q) :=
  loop_rule X W K (rsMid d h h') (fun _ _ => ⟨⟩) (fun l => core X W d (l.map (payRS d h') ++ r)) (rsPre d h h') (rsPost d h h')
    (fun j l a Q => rsMid_step X W K h h' hh hV r hr hn j l a Q) tiles ⟨⟩ Q

theorem rsLast_loop (Q : F .f32 → sProp 𝕄) :
    iprop(ctx X W K ∗ core X W d (due4 d) ∗ sepL tiles (rsFl d 2))
      ⊢ iprop((core X W d (due4 d) ∗ sepL tiles (rsEnd X W d) -∗ Q (AM X W d))
          -∗ wpd d (loop (rsLast d) tiles (Scalar.ofBits .f32 0x00000000#32)) Q) :=
  loop_rule X W K (rsLast d) (fun a j => maxUp a (PP X W 2 j d) (SV X W 2 j (srcN j d))) (fun _ => core X W d (due4 d)) (rsFl d 2) (rsEnd X W d)
    (fun j l a Q => rsLast_step X W K (due4 d) (above4 d (by omega)) j l a Q) tiles _ Q

theorem agFirst_loop (Q : PUnit → sProp 𝕄) :
    iprop(ctx X W K ∗ core X W d (due5 d) ∗ sepL tiles (agPre0 X W d))
      ⊢ iprop((core X W d (due6 d) ∗ sepL tiles (agPost0 X W d) -∗ Q ⟨⟩) -∗ wpd d (loop (agFirst d (k0_pay81 (AV X W))) tiles ⟨⟩) Q) :=
  loop_rule X W K (agFirst d (k0_pay81 (AV X W))) (fun _ _ => ⟨⟩) (fun l => core X W d (l.map (payAG d 0) ++ due6 d)) (agPre0 X W d) (agPost0 X W d)
    (fun j l a Q => agFirst_step X W K (due6 d) (above6 d (by omega)) j l a Q) tiles ⟨⟩ Q

theorem agOwn_loop (Q : PUnit → sProp 𝕄) :
    iprop(ctx X W K ∗ core X W d (due6 d) ∗ sepL tiles (ownPre X W d))
      ⊢ iprop((core X W d (due6 d) ∗ sepL tiles (outAt X W d 0) -∗ Q ⟨⟩) -∗ wpd d (loop (agOwn d (k0_pay80 (AV X W))) tiles ⟨⟩) Q) :=
  loop_rule X W K (agOwn d (k0_pay80 (AV X W))) (fun _ _ => ⟨⟩) (fun _ => core X W d (due6 d)) (ownPre X W d) (outAt X W d 0)
    (fun j l a Q => agOwn_step X W K (due6 d) (above6 d (by omega)) j l a Q) tiles ⟨⟩ Q

theorem agMid_loop (r r' : Fin 4) (h h' : Fin 3) (e₁ : r' = h.succ) (e₂ : r' = h'.castSucc) (o : List (Dev nD × Cx)) (ho : Above (6 + h.val) o)
    (hn : h.val < h'.val) (Q : PUnit → sProp 𝕄) :
    iprop(ctx X W K ∗ core X W d (tiles.map (payAG d h') ++ o) ∗ sepL tiles (agPre d h h'))
      ⊢ iprop((core X W d o ∗ sepL tiles (agPost X W d h h') -∗ Q ⟨⟩) -∗ wpd d (loop (agMid d (k0_pay80 (AV X W)) r h h' r') tiles ⟨⟩) Q) :=
  loop_rule X W K (agMid d (k0_pay80 (AV X W)) r h h' r') (fun _ _ => ⟨⟩) (fun l => core X W d (l.map (payAG d h') ++ o)) (agPre d h h') (agPost X W d h h')
    (fun j l a Q => agMid_step X W K r r' h h' e₁ e₂ o ho hn j l a Q) tiles ⟨⟩ Q

theorem agWaitS_loop (r : Fin 4) (h : Fin 3) (o : List (Dev nD × Cx)) (ho : Above 0 o) (Q : PUnit → sProp 𝕄) :
    iprop(ctx X W K ∗ core X W d o ∗ sepL tiles fun j => fl d (.inl (2, h, j)))
      ⊢ iprop((core X W d o ∗ (sepL tiles fun j => off d (cGS h j)) -∗ Q ⟨⟩) -∗ wpd d (loop (agWaitS d r h) tiles ⟨⟩) Q) :=
  loop_rule X W K (agWaitS d r h) (fun _ _ => ⟨⟩) (fun _ => core X W d o) (fun j => fl d (.inl (2, h, j))) (fun j => off d (cGS h j))
    (fun j l a Q => agWaitS_step X W K r h o ho j l a Q) tiles ⟨⟩ Q

theorem agLast_loop (Q : PUnit → sProp 𝕄) :
    iprop(ctx X W K ∗ core X W d [] ∗ sepL tiles (lastPre d))
      ⊢ iprop((core X W d [] ∗ sepL tiles (lastPost X W d) -∗ Q ⟨⟩) -∗ wpd d (loop (agLast d (k0_pay80 (AV X W))) tiles ⟨⟩) Q) :=
  loop_rule X W K (agLast d (k0_pay80 (AV X W))) (fun _ _ => ⟨⟩) (fun _ => core X W d []) (lastPre d) (lastPost X W d)
    (fun j l a Q => agLast_step X W K j l a Q) tiles ⟨⟩ Q

/-! ## Taking apart and putting together -/

theorem right_left (d : Dev nD) : rightN (leftN d) = d := by revert d; decide +kernel
theorem left_right (d : Dev nD) : leftN (rightN d) = d := by revert d; decide +kernel
theorem axDst_0 (d : Dev nD) : axDst 0 d = rightN d := by revert d; decide +kernel
theorem axDst_1 (d : Dev nD) : axDst 1 d = leftN (leftN d) := by revert d; decide +kernel
theorem axDst_2 (d : Dev nD) : axDst 2 d = leftN d := by revert d; decide +kernel
theorem dst_rights (d : Dev nD) : ∀ j ∈ rights, dstN j d = rightN d := by revert d; decide +kernel
theorem dst_lefts (d : Dev nD) : ∀ j ∈ lefts, dstN j d = leftN d := by revert d; decide +kernel

theorem sepL_congr {l : List (Fin 8)} {Φ Ψ : Fin 8 → sProp 𝕄} (h : ∀ j ∈ l, Φ j = Ψ j) : sepL l Φ = sepL l Ψ := by
  induction l with
  | nil => rfl
  | cons j l ih => rw [sepL_cons, sepL_cons, h j List.mem_cons_self, ih fun k hk => h k (List.mem_cons_of_mem _ hk)]

theorem sepL_both {l l' : List (Fin 8)} {Φ : Fin 8 → sProp 𝕄} : iprop(sepL l Φ ∗ sepL l' Φ) ⊢ sepL (l ++ l') Φ := by
  induction l with
  | nil =>
    iintro ⟨-, H⟩
    iexact H
  | cons i l ih =>
    rw [List.cons_append, sepL_cons, sepL_cons]
    iintro ⟨⟨Hi, H⟩, H'⟩
    isplitl [Hi]; · iexact Hi
    iapply ih
    isplitl [H]; · iexact H
    iexact H'

theorem pay_left (d : Dev nD) : (barPay (leftN d) false : sProp 𝕄) = iprop(sepL rights (lend d) ∗ free d (aRow (leftN d))) := by
  unfold barPay; rw [right_left]
theorem pay_right (d : Dev nD) :
    (barPay (rightN d) true : sProp 𝕄) = iprop(sepL lefts (lend d) ∗ free d (aRow (rightN d)) ∗ free d (aRow (rightN (rightN d)))) := by
  unfold barPay; rw [left_right]

theorem relay_zero (e : Dev nD) : (relay 0 0 e : sProp 𝕄) = free (leftN (leftN e)) (aRow e) := if_pos ⟨rfl, rfl⟩
theorem relay_else (h : Fin 3) (j : Fin 8) (hj : j ≠ 0) (e : Dev nD) : (relay h j e : sProp 𝕄) = iprop(emp) := if_neg fun hh => hj hh.2

/-- The row that is passed on goes with the first tile. -/
theorem relay_in (d : Dev nD) : free (leftN d) (aRow (rightN d)) ⊢ (sepL tiles fun j => relay 0 j (dstN j d) : sProp 𝕄) := by
  have h : (relay 0 0 (dstN 0 d) : sProp 𝕄) = free (leftN d) (aRow (rightN d)) := by
    rw [show dstN 0 d = rightN d from dst_rights d 0 (by decide), relay_zero, left_right]
  unfold tiles
  simp only [sepL_cons, sepL_nil]
  iintro H
  isplitl [H]; · iapply (Entails.of_eq h.symm) $$ H
  rw [relay_else _ _ (by decide), relay_else _ _ (by decide), relay_else _ _ (by decide), relay_else _ _ (by decide),
    relay_else _ _ (by decide), relay_else _ _ (by decide), relay_else _ _ (by decide)]
  isplitr; · iempintro
  isplitr; · iempintro
  isplitr; · iempintro
  isplitr; · iempintro
  isplitr; · iempintro
  isplitr; · iempintro
  isplitr; · iempintro
  iempintro
theorem relay_out (d : Dev nD) : (sepL tiles fun j => relay 0 j d : sProp 𝕄) ⊢ free (axDst 1 d) (aRow d) := by
  rw [axDst_1]
  unfold tiles
  simp only [sepL_cons, sepL_nil]
  iintro ⟨H, -⟩
  have h : (relay 0 ⟨0, by decide⟩ d : sProp 𝕄) = free (leftN (leftN d)) (aRow d) := relay_zero d
  iapply (Entails.of_eq h) $$ H

/-- What a device may write of the neighbour it sends tile `j` to. -/
theorem lend_open (d : Dev nD) (j : Fin 8) : (lend (dstN j d) j : sProp 𝕄)
    ⊢ iprop(free (dstN j d) (cAt 0 j) ∗ free (dstN j d) (cAt 1 j) ∗ free (dstN j d) (cAt 2 j)
        ∗ free (dstN j d) (gSl (chunk 0 j d) j) ∗ free (dstN j d) (gSl (chunk 1 j d) j) ∗ free (dstN j d) (gSl (chunk 2 j d) j)) := by
  have e0 : chunk 0 j d = chunk (Fin.succ 0) j (dstN j d) := chunk_step 0 j d
  have e1 : chunk 1 j d = chunk (Fin.succ 1) j (dstN j d) := chunk_step 1 j d
  have e2 : chunk 2 j d = chunk (Fin.succ 2) j (dstN j d) := chunk_step 2 j d
  rw [e0, e1, e2]
  unfold lend hops lend1
  simp only [sepL_cons, sepL_nil]
  iintro ⟨⟨C0, D0⟩, ⟨C1, D1⟩, ⟨C2, D2⟩, -⟩
  isplitl [C0]; · iexact C0
  isplitl [C1]; · iexact C1
  isplitl [C2]; · iexact C2
  isplitl [D0]; · iexact D0
  isplitl [D1]; · iexact D1
  iexact D2

theorem lend_recv (d : Dev nD) : iprop(sepL rights (lend (rightN d)) ∗ sepL lefts (lend (leftN d))) ⊢ (sepL tiles fun j => lend (dstN j d) j : sProp 𝕄) := by
  rw [← bigSep_eq_sepL tiles tiles_nodup tiles_all, bigSep_eq_sepL (rights ++ lefts) (by decide) (by decide)]
  rw [sepL_congr (l := rights) (Φ := lend (rightN d)) (Ψ := fun j => lend (dstN j d) j) fun j hj => by rw [dst_rights d j hj],
    sepL_congr (l := lefts) (Φ := lend (leftN d)) (Ψ := fun j => lend (dstN j d) j) fun j hj => by rw [dst_lefts d j hj]]
  exact sepL_both

theorem out_open (d : Dev nD) (j : Fin 8) : (sepL rounds4 fun r => free d (oSl (chunk r j d) j) : sProp 𝕄)
    ⊢ iprop(free d (oSl (chunk 0 j d) j) ∗ free d (oSl (chunk 1 j d) j) ∗ free d (oSl (chunk 2 j d) j) ∗ free d (oSl (chunk 3 j d) j)) := by
  unfold rounds4
  simp only [sepL_cons, sepL_nil]
  iintro ⟨H0, H1, H2, H3, -⟩
  isplitl [H0]; · iexact H0
  isplitl [H1]; · iexact H1
  isplitl [H2]; · iexact H2
  iexact H3
theorem out_close (d : Dev nD) (j : Fin 8) : iprop(outAt X W d 0 j ∗ outAt X W d 1 j ∗ outAt X W d 2 j ∗ outAt X W d 3 j)
    ⊢ (sepL rounds4 fun r => has d (oSl (chunk r j d) j) fullShare (OV X W (chunk r j d) j) : sProp 𝕄) := by
  unfold rounds4 outAt
  simp only [sepL_cons, sepL_nil]
  iintro ⟨H0, H1, H2, H3⟩
  isplitl [H0]; · iexact H0
  isplitl [H1]; · iexact H1
  isplitl [H2]; · iexact H2
  isplitl [H3]; · iexact H3
  iempintro

theorem lend_parts (d : Dev nD) : iprop(sepL rights (lend (rightN d)) ∗ sepL lefts (lend (leftN d)))
    ⊢ (iprop((sepL tiles fun j => free (dstN j d) (cAt 0 j)) ∗ (sepL tiles fun j => free (dstN j d) (cAt 1 j)) ∗ (sepL tiles fun j => free (dstN j d) (cAt 2 j))
        ∗ (sepL tiles fun j => free (dstN j d) (gSl (chunk 0 j d) j)) ∗ (sepL tiles fun j => free (dstN j d) (gSl (chunk 1 j d) j))
        ∗ (sepL tiles fun j => free (dstN j d) (gSl (chunk 2 j d) j))) : sProp 𝕄) := by
  simp only [← sepL_sep]
  exact (lend_recv d).trans (sepL_mono fun j => lend_open d j)
theorem out_parts (d : Dev nD) : free d oM
    ⊢ (iprop((sepL tiles fun j => free d (oSl (chunk 0 j d) j)) ∗ (sepL tiles fun j => free d (oSl (chunk 1 j d) j))
        ∗ (sepL tiles fun j => free d (oSl (chunk 2 j d) j)) ∗ (sepL tiles fun j => free d (oSl (chunk 3 j d) j))) : sProp 𝕄) := by
  simp only [← sepL_sep]
  exact cut_o.trans (sepL_mono fun j => out_open d j)

/-- The result put together. -/
theorem out_join (d : Dev nD) : iprop(sepL tiles (outAt X W d 0) ∗ sepL tiles (outAt X W d 1) ∗ sepL tiles (outAt X W d 2) ∗ sepL tiles (outAt X W d 3))
    ⊢ (has d oM fullShare (OUT X W) : sProp 𝕄) := by
  rw [← sepL_sep, ← sepL_sep, ← sepL_sep]
  exact (sepL_mono fun j => out_close X W d j).trans (join_o X W)

/-! ## The body -/

/-- The ghost state a device starts with. -/
def ghost (d : Dev nD) : sProp 𝕄 :=
  iprop(barG d ∗ (sepL tiles (rsG d 0) ∗ sepL tiles (rsG d 1) ∗ sepL tiles (rsG d 2))
    ∗ (sepL tiles (agG d 0) ∗ sepL tiles (agG d 1) ∗ sepL tiles (agG d 2)) ∗ sepL hops (axG d))

/-- The scratch buffers and the three result arrays, whatever they hold. -/
def rooms (d : Dev nD) : sProp 𝕄 := iprop(free d sM ∗ free d aM ∗ free d cM ∗ free d gM ∗ free d oM)

/-- All cells at rest. -/
def rests (d : Dev nD) : sProp 𝕄 :=
  iprop(off d cBar ∗ (sepL tiles (rsOff d 0) ∗ sepL tiles (rsOff d 1) ∗ sepL tiles (rsOff d 2))
    ∗ ((sepL tiles fun j => off d (cGS 0 j)) ∗ (sepL tiles fun j => off d (cGS 1 j)) ∗ (sepL tiles fun j => off d (cGS 2 j)))
    ∗ ((sepL tiles fun j => off d (cGR 0 j)) ∗ (sepL tiles fun j => off d (cGR 1 j)) ∗ (sepL tiles fun j => off d (cGR 2 j)))
    ∗ axOff d)

/-- What is left at the end. -/
def done (d : Dev nD) : sProp 𝕄 := iprop(core X W d [] ∗ free d sM ∗ free d aM ∗ has d oM fullShare (OUT X W) ∗ rests d)

theorem prog_sound (Q : PUnit → sProp 𝕄) :
    iprop(ctx X W K ∗ core X W d (due0 d) ∗ rooms d ∗ ghost d) ⊢ iprop((done X W d -∗ Q ⟨⟩) -∗ wpd d (prog d) Q) := by
  unfold rooms ghost
  iintro ⟨#Hc, Hcore, ⟨Hs, Ha, Hcm, Hg, Ho⟩, HB, ⟨R0, R1, R2⟩, ⟨A0, A1, A2⟩, AX⟩
  iintro HQ
  ihave Hs := cut_s $$ Hs
  ihave Ho := (out_parts d) $$ Ho
  icases Ho with ⟨O0, O1, O2, O3⟩
  ihave Ha := cut_a $$ Ha
  unfold roundOf
  simp only [sepL_cons, sepL_nil]
  icases Ha with ⟨Ha, HaL, HaR, HaRR, -⟩
  ihave HL := (lend_tiles (d := d)) $$ [Hcm Hg]
  · isplitl [Hcm]; · iexact Hcm
    iexact Hg
  icases HL with ⟨LR, LL, G0⟩
  unfold prog
  iapply wpd_bind
  ihave Hcore := (show core X W d (due0 d) ⊢ iprop((has d xM fullShare (X d) ∗ has d wM fullShare (W d) ∗ free d tM ∗ free d qM) ∗ run d (due0 d)) by
    unfold core
    iintro ⟨H1, H2, H3, H4, H5⟩
    isplitr [H5]
    · isplitl [H1]; · iexact H1
      isplitl [H2]; · iexact H2
      isplitl [H3]; · iexact H3
      iexact H4
    · iexact H5) $$ Hcore
  icases Hcore with ⟨Hm, HO⟩
  iapply (meet_step X W K) $$ [HB LR LL HaL HaR HaRR HO]
  · isplitr; · iexact Hc
    isplitl [HB]; · iexact HB
    rw [pay_left, pay_right]
    isplitl [LR HaL]
    · isplitl [LR]; · iexact LR
      iexact HaL
    isplitl [LL HaR HaRR]
    · isplitl [LL]; · iexact LL
      isplitl [HaR]; · iexact HaR
      iexact HaRR
    iexact HO
  iintro ⟨HpF, HpT, Hbar, HO⟩
  ihave Hcore := (show iprop((has d xM fullShare (X d) ∗ has d wM fullShare (W d) ∗ free d tM ∗ free d qM) ∗ run d (due1 d)) ⊢ core X W d (due1 d) by
    unfold core
    iintro ⟨⟨H1, H2, H3, H4⟩, H5⟩
    isplitl [H1]; · iexact H1
    isplitl [H2]; · iexact H2
    isplitl [H3]; · iexact H3
    isplitl [H4]; · iexact H4
    iexact H5) $$ [Hm HO]
  · isplitl [Hm]; · iexact Hm
    iexact HO
  unfold barPay
  icases HpF with ⟨LR, X0⟩
  icases HpT with ⟨LL, X2, XR⟩
  ihave HL := (lend_parts d) $$ [LR LL]
  · isplitl [LR]; · iexact LR
    iexact LL
  icases HL with ⟨C0, C1, C2, D0, D1, D2⟩
  ihave XR := (relay_in d) $$ XR
  -- the first ring
  iapply wpd_bind
  iapply (rsFirst_loop X W K) $$ [Hcore Hs R0 C0 XR]
  · isplitr; · iexact Hc
    isplitl [Hcore]; · iexact Hcore
    rw [show (sepL tiles (rsPre0 d) : sProp 𝕄) = iprop((sepL tiles fun j => free d (sAt j)) ∗ sepL tiles (rsG d 0)
      ∗ (sepL tiles fun j => free (dstN j d) (cAt 0 j)) ∗ sepL tiles fun j => relay 0 j (dstN j d)) by simp only [← sepL_sep]; rfl]
    isplitl [Hs]; · iexact Hs
    isplitl [R0]; · iexact R0
    isplitl [C0]; · iexact C0
    iexact XR
  iintro ⟨Hcore, Hfl⟩
  iapply wpd_bind
  iapply (rsMid_loop X W K 0 1 (by decide) (fun _ => rfl) (due3 d) (above3 d (by decide)) (by decide)) $$ [Hcore Hfl R1 C1]
  · isplitr; · iexact Hc
    isplitl [Hcore]; · iexact Hcore
    rw [show (sepL tiles (rsPre d 0 1) : sProp 𝕄) = iprop(sepL tiles (rsFl d 0) ∗ sepL tiles (rsG d 1)
      ∗ sepL tiles fun j => free (dstN j d) (cAt 1 j)) by simp only [← sepL_sep]; rfl]
    isplitl [Hfl]; · iexact Hfl
    isplitl [R1]; · iexact R1
    iexact C1
  iintro ⟨Hcore, Hp⟩
  ihave Hp := (Entails.of_eq (show (sepL tiles (rsPost d 0 1) : sProp 𝕄) = iprop(sepL tiles (rsFl d 1) ∗ (sepL tiles fun j => relay 0 j d) ∗ sepL tiles (rsOff d 0))
    by simp only [← sepL_sep]; rfl)) $$ Hp
  icases Hp with ⟨Hfl, X1, F0⟩
  ihave X1 := (relay_out d) $$ X1
  iapply wpd_bind
  iapply (rsMid_loop X W K 1 2 (by decide) (fun _ => rfl) (due4 d) (above4 d (by decide)) (by decide)) $$ [Hcore Hfl R2 C2]
  · isplitr; · iexact Hc
    isplitl [Hcore]; · iexact Hcore
    rw [show (sepL tiles (rsPre d 1 2) : sProp 𝕄) = iprop(sepL tiles (rsFl d 1) ∗ sepL tiles (rsG d 2)
      ∗ sepL tiles fun j => free (dstN j d) (cAt 2 j)) by simp only [← sepL_sep]; rfl]
    isplitl [Hfl]; · iexact Hfl
    isplitl [R2]; · iexact R2
    iexact C2
  iintro ⟨Hcore, Hp⟩
  ihave Hp := (Entails.of_eq (show (sepL tiles (rsPost d 1 2) : sProp 𝕄) = iprop(sepL tiles (rsFl d 2) ∗ (sepL tiles fun j => relay 1 j d) ∗ sepL tiles (rsOff d 1))
    by simp only [← sepL_sep]; rfl)) $$ Hp
  icases Hp with ⟨Hfl, -, F1⟩
  iapply wpd_bind
  iapply (rsLast_loop X W K) $$ [Hcore Hfl]
  · isplitr; · iexact Hc
    isplitl [Hcore]; · iexact Hcore
    iexact Hfl
  iintro ⟨Hcore, Hp⟩
  ihave Hp := (Entails.of_eq (show (sepL tiles (rsEnd X W d) : sProp 𝕄) = iprop((sepL tiles fun j => has d (sAt j) fullShare (FV X W j d)) ∗ sepL tiles (rsOff d 2))
    by simp only [← sepL_sep]; rfl)) $$ Hp
  icases Hp with ⟨Hs, F2⟩
  -- the maxima
  iapply wpd_bind
  iapply (exchange_step X W K) $$ [Hcore Ha X0 X1 X2 AX]
  · isplitr; · iexact Hc
    isplitl [Hcore]; · iexact Hcore
    isplitl [Ha]; · iexact Ha
    unfold axPre
    rw [sepL_sep]
    isplitr [AX]
    · unfold hops
      simp only [sepL_cons, sepL_nil]
      isplitl [X0]; · iapply (Entails.of_eq (congrArg (fun e => free e (aRow d)) (axDst_0 d).symm)) $$ X0
      isplitl [X1]; · iexact X1
      isplitl [X2]; · iapply (Entails.of_eq (congrArg (fun e => free e (aRow d)) (axDst_2 d).symm)) $$ X2
      iempintro
    · iexact AX
  iintro ⟨Hcore, Ha, FX⟩
  -- the second ring
  iapply wpd_bind
  iapply (agFirst_loop X W K) $$ [Hcore Hs G0 A0 D0]
  · isplitr; · iexact Hc
    isplitl [Hcore]; · iexact Hcore
    rw [show (sepL tiles (agPre0 X W d) : sProp 𝕄) = iprop((sepL tiles fun j => has d (sAt j) fullShare (FV X W j d))
      ∗ (sepL tiles fun j => free d (gSl (chunk 0 j d) j)) ∗ sepL tiles (agG d 0) ∗ sepL tiles fun j => free (dstN j d) (gSl (chunk 0 j d) j))
      by simp only [← sepL_sep]; rfl]
    isplitl [Hs]; · iexact Hs
    isplitl [G0]; · iexact G0
    isplitl [A0]; · iexact A0
    iexact D0
  iintro ⟨Hcore, Hp⟩
  ihave Hp := (Entails.of_eq (show (sepL tiles (agPost0 X W d) : sProp 𝕄) = iprop((sepL tiles fun j => has d (sAt j) fullShare (FV X W j d))
      ∗ (sepL tiles fun j => has d (gSl (chunk 0 j d) j) fullShare.right (GV X W (chunk 0 j d) j)) ∗ (sepL tiles fun j => fl d (.inl (2, 0, j)))
      ∗ sepL tiles fun j => fl d (.inl (3, 0, j)))
    by simp only [← sepL_sep]; rfl)) $$ Hp
  icases Hp with ⟨Hs, G0, S0, H0⟩
  iapply wpd_bind
  iapply (agOwn_loop X W K) $$ [Hcore G0 O0]
  · isplitr; · iexact Hc
    isplitl [Hcore]; · iexact Hcore
    rw [show (sepL tiles (ownPre X W d) : sProp 𝕄) = iprop((sepL tiles fun j => has d (gSl (chunk 0 j d) j) fullShare.right (GV X W (chunk 0 j d) j))
      ∗ sepL tiles fun j => free d (oSl (chunk 0 j d) j)) by simp only [← sepL_sep]; rfl]
    isplitl [G0]; · iexact G0
    iexact O0
  iintro ⟨Hcore, O0⟩
  iapply wpd_bind
  iapply (agMid_loop X W K 0 1 0 1 rfl rfl (due7 d) (above7 d (by decide)) (by decide)) $$ [Hcore H0 A1 D1 O1]
  · isplitr; · iexact Hc
    isplitl [Hcore]; · iexact Hcore
    rw [show (sepL tiles (agPre d 0 1) : sProp 𝕄) = iprop((sepL tiles fun j => fl d (.inl (3, 0, j))) ∗ sepL tiles (agG d 1)
      ∗ (sepL tiles fun j => free (dstN j d) (gSl (chunk 1 j d) j)) ∗ sepL tiles fun j => free d (oSl (chunk 1 j d) j)) by simp only [← sepL_sep]; rfl]
    isplitl [H0]; · iexact H0
    isplitl [A1]; · iexact A1
    isplitl [D1]; · iexact D1
    iexact O1
  iintro ⟨Hcore, Hp⟩
  ihave Hp := (Entails.of_eq (show (sepL tiles (agPost X W d 0 1) : sProp 𝕄) = iprop(((sepL tiles fun j => fl d (.inl (2, 1, j)))
      ∗ sepL tiles fun j => fl d (.inl (3, 1, j))) ∗ (sepL tiles fun j => off d (cGR 0 j)) ∗ sepL tiles (outAt X W d 1))
    by simp only [← sepL_sep]; rfl)) $$ Hp
  icases Hp with ⟨⟨S1, H1⟩, E0, O1⟩
  iapply wpd_bind
  iapply (agWaitS_loop X W K 0 0 (due7 d) (above7 d (by decide))) $$ [Hcore S0]
  · isplitr; · iexact Hc
    isplitl [Hcore]; · iexact Hcore
    iexact S0
  iintro ⟨Hcore, S0⟩
  iapply wpd_bind
  iapply (agMid_loop X W K 1 2 1 2 rfl rfl [] (Above.nil _) (by decide)) $$ [Hcore H1 A2 D2 O2]
  · isplitr; · iexact Hc
    isplitl [Hcore]; · iexact Hcore
    rw [show (sepL tiles (agPre d 1 2) : sProp 𝕄) = iprop((sepL tiles fun j => fl d (.inl (3, 1, j))) ∗ sepL tiles (agG d 2)
      ∗ (sepL tiles fun j => free (dstN j d) (gSl (chunk 2 j d) j)) ∗ sepL tiles fun j => free d (oSl (chunk 2 j d) j)) by simp only [← sepL_sep]; rfl]
    isplitl [H1]; · iexact H1
    isplitl [A2]; · iexact A2
    isplitl [D2]; · iexact D2
    iexact O2
  iintro ⟨Hcore, Hp⟩
  ihave Hp := (Entails.of_eq (show (sepL tiles (agPost X W d 1 2) : sProp 𝕄) = iprop(((sepL tiles fun j => fl d (.inl (2, 2, j)))
      ∗ sepL tiles fun j => fl d (.inl (3, 2, j))) ∗ (sepL tiles fun j => off d (cGR 1 j)) ∗ sepL tiles (outAt X W d 2))
    by simp only [← sepL_sep]; rfl)) $$ Hp
  icases Hp with ⟨⟨S2, H2⟩, E1, O2⟩
  iapply wpd_bind
  iapply (agWaitS_loop X W K 1 1 [] (Above.nil _)) $$ [Hcore S1]
  · isplitr; · iexact Hc
    isplitl [Hcore]; · iexact Hcore
    iexact S1
  iintro ⟨Hcore, S1⟩
  iapply wpd_bind
  iapply (agLast_loop X W K) $$ [Hcore H2 O3]
  · isplitr; · iexact Hc
    isplitl [Hcore]; · iexact Hcore
    rw [show (sepL tiles (lastPre d) : sProp 𝕄) = iprop((sepL tiles fun j => fl d (.inl (3, 2, j)))
      ∗ sepL tiles fun j => free d (oSl (chunk 3 j d) j)) by simp only [← sepL_sep]; rfl]
    isplitl [H2]; · iexact H2
    iexact O3
  iintro ⟨Hcore, Hp⟩
  ihave Hp := (Entails.of_eq (show (sepL tiles (lastPost X W d) : sProp 𝕄) = iprop((sepL tiles fun j => off d (cGR 2 j)) ∗ sepL tiles (outAt X W d 3))
    by simp only [← sepL_sep]; rfl)) $$ Hp
  icases Hp with ⟨E2, O3⟩
  iapply (agWaitS_loop X W K 2 2 [] (Above.nil _)) $$ [Hcore S2]
  · isplitr; · iexact Hc
    isplitl [Hcore]; · iexact Hcore
    iexact S2
  iintro ⟨Hcore, S2⟩
  iapply HQ
  unfold done rests off
  isplitl [Hcore]; · iexact Hcore
  isplitl [Hs]
  · iapply join_s
    iapply (sepL_mono fun j => has_free d (sAt j) (FV X W j d)) $$ Hs
  isplitl [Ha]; · iapply (has_free d aM (AV X W)) $$ Ha
  isplitl [O0 O1 O2 O3]
  · iapply (out_join X W d)
    isplitl [O0]; · iexact O0
    isplitl [O1]; · iexact O1
    isplitl [O2]; · iexact O2
    iexact O3
  isplitl [Hbar]; · iexact Hbar
  isplitl [F0 F1 F2]
  · isplitl [F0]; · iexact F0
    isplitl [F1]; · iexact F1
    iexact F2
  isplitl [S0 S1 S2]
  · isplitl [S0]; · iexact S0
    isplitl [S1]; · iexact S1
    iexact S2
  isplitl [E0 E1 E2]
  · isplitl [E0]; · iexact E0
    isplitl [E1]; · iexact E1
    iexact E2
  iexact FX

end Cert.RingMM

end
-- ==== Proof.Deal.lean ====
/-
The launch's ghost state dealt to the devices: positions, duties and credits, cell by cell.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

/-! ## Conjunctions over the cells -/

theorem bigSep_opt {A : Type} [Fintype A] [DecidableEq A] (Φ : Option A → sProp 𝕄) :
    bigSep Finset.univ Φ = iprop(Φ none ∗ bigSep Finset.univ fun a => Φ (some a)) := by
  rw [show (Finset.univ : Finset (Option A)) = insert none (Finset.univ.map Function.Embedding.some) from by ext x; cases x <;> simp,
    bigSep_insert (by simp), bigSep_map]
  rfl
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_two (Φ : Bool → sProp 𝕄) : bigSep Finset.univ Φ = iprop(Φ false ∗ Φ true) :=
  bigSep_univ_eq_bigSepL [false, true] (by decide) (by decide) Φ

/-- The transfer cells of a device. -/
abbrev Cy : Type := (Fin 4 × Fin 3 × Fin 8) ⊕ (Bool × Fin 3)

/-- A table of cells, three hops of eight tiles. -/
def tab (Φ : Fin 3 → Fin 8 → sProp 𝕄) : sProp 𝕄 := iprop(sepL tiles (Φ 0) ∗ sepL tiles (Φ 1) ∗ sepL tiles (Φ 2))

theorem bigSep_tab (Φ : Fin 3 × Fin 8 → sProp 𝕄) : bigSep Finset.univ Φ = tab fun h j => Φ (h, j) := by
  unfold tab
  rw [bigSep_univ_prod, bigSep_three, bigSep_eq_sepL tiles tiles_nodup tiles_all, bigSep_eq_sepL tiles tiles_nodup tiles_all,
    bigSep_eq_sepL tiles tiles_nodup tiles_all]

/-- Everything a device has of each transfer cell. -/
theorem bigSep_cells (Φ : Cy → sProp 𝕄) : bigSep Finset.univ Φ
    = iprop((tab (fun h j => Φ (.inl (0, h, j))) ∗ tab (fun h j => Φ (.inl (1, h, j))) ∗ tab (fun h j => Φ (.inl (2, h, j))) ∗ tab (fun h j => Φ (.inl (3, h, j))))
        ∗ (sepL hops fun k => Φ (.inr (false, k))) ∗ (sepL hops fun k => Φ (.inr (true, k)))) := by
  rw [bigSep_univ_sum]
  have h₁ : (bigSep Finset.univ fun t : Fin 4 × Fin 3 × Fin 8 => Φ (.inl t))
      = iprop(tab (fun h j => Φ (.inl (0, h, j))) ∗ tab (fun h j => Φ (.inl (1, h, j))) ∗ tab (fun h j => Φ (.inl (2, h, j))) ∗ tab (fun h j => Φ (.inl (3, h, j)))) := by
    rw [bigSep_univ_prod, bigSep_four, bigSep_tab, bigSep_tab, bigSep_tab, bigSep_tab]
  have h₂ : (bigSep Finset.univ fun t : Bool × Fin 3 => Φ (.inr t))
      = iprop((sepL hops fun k => Φ (.inr (false, k))) ∗ (sepL hops fun k => Φ (.inr (true, k)))) := by
    rw [bigSep_univ_prod, bigSep_two, bigSep_eq_sepL hops hops_nodup hops_all, bigSep_eq_sepL hops hops_nodup hops_all]
  rw [h₁, h₂]
  rfl

/-! ## The duties -/

/-- The neighbours as bijections of the devices. -/
def leftE : Dev nD ≃ Dev nD := ⟨leftN, rightN, right_left, left_right⟩
def rightE : Dev nD ≃ Dev nD := ⟨rightN, leftN, left_right, right_left⟩
def dstE (j : Fin 8) : Dev nD ≃ Dev nD := ⟨dstN j, srcN j, src_dst j, dst_src j⟩
def axE (k : Fin 3) : Dev nD ≃ Dev nD := ⟨axDst k, axSrc k, axSrc_dst k, axDst_src k⟩

/-- On whose cell a device has the duty: the second duty of the barrier, then each cell's first. -/
def toE : Option Cx → Dev nD ≃ Dev nD
  | none => rightE
  | some none => leftE
  | some (some (.inl (0, _, _))) => Equiv.refl _
  | some (some (.inl (1, _, j))) => dstE j
  | some (some (.inl (2, _, _))) => Equiv.refl _
  | some (some (.inl (3, _, j))) => dstE j
  | some (some (.inr (false, _))) => Equiv.refl _
  | some (some (.inr (true, k))) => axE k

/-- The duty `y` of device `e`'s cells. -/
def tokAt (e : Dev nD) : Option Cx → GSem nD τ sig × ℕ × Bool
  | none => (kcell (e, cBar), 0, true)
  | some x => (kcell (e, x), 0, false)

theorem tokAt_inj : Function.Injective fun p : Dev nD × Option Cx => tokAt p.1 p.2 := by
  rintro ⟨e, _ | x⟩ ⟨e', _ | x'⟩ h
  · have h₁ := kcell_inj (congrArg (fun t : GSem nD τ sig × ℕ × Bool => t.1) h)
    exact Prod.ext (Prod.ext_iff.mp h₁).1 rfl
  · exact absurd (show true = false from congrArg (fun t : GSem nD τ sig × ℕ × Bool => t.2.2) h) Bool.noConfusion
  · exact absurd (show false = true from congrArg (fun t : GSem nD τ sig × ℕ × Bool => t.2.2) h) Bool.noConfusion
  · have h₁ := kcell_inj (congrArg (fun t : GSem nD τ sig × ℕ × Bool => t.1) h)
    exact Prod.ext (Prod.ext_iff.mp h₁).1 (congrArg some (Prod.ext_iff.mp h₁).2)

def tokP (e : Dev nD) (y : Option Cx) : sProp 𝕄 := dutyTok ER (tokAt e y).1 (tokAt e y).2.1 (tokAt e y).2.2

/-- The duties dealt out from the devices whose cells they are on to the devices that have to meet them. -/
theorem toks_deal : (bigSep Finset.univ fun d : Dev nD => bigSep Finset.univ fun y : Option Cx => (tokP d y : sProp 𝕄))
    = bigSep Finset.univ fun d : Dev nD => bigSep Finset.univ fun y : Option Cx => tokP (toE y d) y := by
  rw [bigSep_univ_comm, bigSep_univ_comm fun (d : Dev nD) (y : Option Cx) => (tokP (toE y d) y : sProp 𝕄)]
  exact bigSep_congr fun y _ => bigSep_univ_equiv (toE y) fun d => tokP d y

/-- The duties of one device, one by one. -/
theorem toks_split (d : Dev nD) : (bigSep Finset.univ fun y : Option Cx => (tokP (toE y d) y : sProp 𝕄))
    = iprop(dutyTok ER (kcell (rightN d, cBar)) 0 true ∗ dutyTok ER (kcell (leftN d, cBar)) 0 false
        ∗ (tab (fun h j => dutyTok ER (kcell (d, cRS h j)) 0 false) ∗ tab (fun h j => dutyTok ER (kcell (dstN j d, cRR h j)) 0 false)
            ∗ tab (fun h j => dutyTok ER (kcell (d, cGS h j)) 0 false) ∗ tab (fun h j => dutyTok ER (kcell (dstN j d, cGR h j)) 0 false))
        ∗ (sepL hops fun k => dutyTok ER (kcell (d, cAS k)) 0 false) ∗ (sepL hops fun k => dutyTok ER (kcell (axDst k d, cAR k)) 0 false)) := by
  rw [bigSep_opt, bigSep_opt, bigSep_cells]
  rfl

/-- The positions of one device, one by one. -/
theorem pos_split (d : Dev nD) : (bigSep Finset.univ fun x : Cx => (atPos ER (kcell (d, x)) 0 ∅ 0 : sProp 𝕄))
    = iprop(atPos ER (kcell (d, cBar)) 0 ∅ 0
        ∗ (tab (fun h j => atPos ER (kcell (d, cRS h j)) 0 ∅ 0) ∗ tab (fun h j => atPos ER (kcell (d, cRR h j)) 0 ∅ 0)
            ∗ tab (fun h j => atPos ER (kcell (d, cGS h j)) 0 ∅ 0) ∗ tab (fun h j => atPos ER (kcell (d, cGR h j)) 0 ∅ 0))
        ∗ (sepL hops fun k => atPos ER (kcell (d, cAS k)) 0 ∅ 0) ∗ (sepL hops fun k => atPos ER (kcell (d, cAR k)) 0 ∅ 0)) := by
  rw [bigSep_opt, bigSep_cells]

/-! ## The credits -/

/-- All payments, by whom they are made to and to which cell. -/
def dueL : List ((Dev nD ≃ Dev nD) × Cx) :=
  (leftE, cBar) :: (rightE, cBar) :: (tiles.map (fun j => (dstE j, cRR 0 j)) ++ (tiles.map (fun j => (dstE j, cRR 1 j)) ++ (tiles.map (fun j => (dstE j, cRR 2 j))
    ++ (hops.map (fun k => (axE k, cAR k)) ++ (tiles.map (fun j => (dstE j, cGR 0 j)) ++ (tiles.map (fun j => (dstE j, cGR 1 j))
    ++ (tiles.map (fun j => (dstE j, cGR 2 j)) ++ [])))))))

theorem due0_eq (d : Dev nD) : due0 d = dueL.map fun p => (p.1 d, p.2) := rfl

/-- The credit for what comes in at a cell. -/
def credAt (c : Dev nD) (x : Cx) : sProp 𝕄 := cred (tallyAt (kcell (c, x)) () (amt x))

theorem creds_list (l : List ((Dev nD ≃ Dev nD) × Cx)) (c : Dev nD) :
    (Pipeline.launchCred (fun d => owed (l.map fun p => (p.1 d, p.2))) c : sProp 𝕄) ⊢ sepL l fun p => credAt c p.2 := by
  induction l with
  | nil =>
    rw [sepL_nil]
    exact Entails.of_eq (Pipeline.launchCred_zero c)
  | cons p l ih =>
    rw [sepL_cons]
    have h : (Pipeline.launchCred (fun d => owed ((p :: l).map fun p => (p.1 d, p.2))) c : sProp 𝕄)
        = iprop(Pipeline.launchCred (fun d => owed (l.map fun p => (p.1 d, p.2))) c ∗ Pipeline.launchCred (fun d => tallyAt (kcell (p.1 d, p.2)) () (amt p.2)) c) :=
      Pipeline.launchCred_add (fun d => owed (l.map fun p => (p.1 d, p.2))) (fun d => tallyAt (kcell (p.1 d, p.2)) () (amt p.2)) c
    have h' : (Pipeline.launchCred (fun d => tallyAt (kcell (p.1 d, p.2)) () (amt p.2)) c : sProp 𝕄) ⊢ credAt c p.2 :=
      Pipeline.launchCred_tallyAt (semOf p.2) p.1 p.1.symm p.1.apply_symm_apply p.1.symm_apply_apply () (amt p.2) c
    rw [h]
    iintro ⟨H, Hp⟩
    isplitl [Hp]; · iapply h' $$ Hp
    iapply ih $$ H

theorem sepL_map {ι κ : Type} (f : ι → κ) (l : List ι) (Φ : κ → sProp 𝕄) : sepL (l.map f) Φ = sepL l fun i => Φ (f i) := by
  induction l with
  | nil => rfl
  | cons i l ih => rw [List.map_cons, sepL_cons, sepL_cons, ih]

theorem creds (c : Dev nD) : (Pipeline.launchCred (fun d => owed (due0 d)) c : sProp 𝕄)
    ⊢ iprop(cred (tallyAt (kcell (c, cBar)) () 2) ∗ tab (fun h j => credAt c (cRR h j)) ∗ tab (fun h j => credAt c (cGR h j)) ∗ (sepL hops fun k => credAt c (cAR k))) := by
  rw [show (fun d => owed (due0 d)) = fun d => owed (dueL.map fun p => (p.1 d, p.2)) from funext fun d => by rw [due0_eq]]
  refine (creds_list dueL c).trans ?_
  unfold dueL tab
  rw [sepL_cons, sepL_cons]
  dsimp only
  iintro ⟨B0, B1, H⟩
  ihave H := sepL_append $$ H
  icases H with ⟨R0, H⟩
  ihave H := sepL_append $$ H
  icases H with ⟨R1, H⟩
  ihave H := sepL_append $$ H
  icases H with ⟨R2, H⟩
  ihave H := sepL_append $$ H
  icases H with ⟨X, H⟩
  ihave H := sepL_append $$ H
  icases H with ⟨G0, H⟩
  ihave H := sepL_append $$ H
  icases H with ⟨G1, H⟩
  ihave H := sepL_append $$ H
  icases H with ⟨G2, -⟩
  isplitl [B0 B1]
  · have h : iprop(credAt c cBar ∗ credAt c cBar) ⊢ (cred (tallyAt (kcell (c, cBar)) () 2) : sProp 𝕄) := by
      rw [show (2 : ℕ) = 1 + 1 from rfl, ← tallyAt_add (kcell (c, cBar)) () 1 1]
      exact (cred_add _ _).2
    iapply h
    isplitl [B0]; · iexact B0
    iexact B1
  isplitl [R0 R1 R2]
  · isplitl [R0]; · iapply (Entails.of_eq (sepL_map _ _ _)) $$ R0
    isplitl [R1]; · iapply (Entails.of_eq (sepL_map _ _ _)) $$ R1
    iapply (Entails.of_eq (sepL_map _ _ _)) $$ R2
  isplitl [G0 G1 G2]
  · isplitl [G0]; · iapply (Entails.of_eq (sepL_map _ _ _)) $$ G0
    isplitl [G1]; · iapply (Entails.of_eq (sepL_map _ _ _)) $$ G1
    iapply (Entails.of_eq (sepL_map _ _ _)) $$ G2
  iapply (Entails.of_eq (sepL_map _ _ _)) $$ X

/-! ## What a device starts with -/

/-- Five columns of a table, put together row by row. -/
theorem tab_zip (A B C D E : Fin 3 → Fin 8 → sProp 𝕄) :
    iprop(tab A ∗ tab B ∗ tab C ∗ tab D ∗ tab E) ⊢ tab fun h j => iprop(A h j ∗ B h j ∗ C h j ∗ D h j ∗ E h j) := by
  unfold tab
  simp only [sepL_sep]
  iintro ⟨⟨A0, A1, A2⟩, ⟨B0, B1, B2⟩, ⟨C0, C1, C2⟩, ⟨D0, D1, D2⟩, ⟨E0, E1, E2⟩⟩
  isplitl [A0 B0 C0 D0 E0]
  · isplitl [A0]; · iexact A0
    isplitl [B0]; · iexact B0
    isplitl [C0]; · iexact C0
    isplitl [D0]; · iexact D0
    iexact E0
  isplitl [A1 B1 C1 D1 E1]
  · isplitl [A1]; · iexact A1
    isplitl [B1]; · iexact B1
    isplitl [C1]; · iexact C1
    isplitl [D1]; · iexact D1
    iexact E1
  isplitl [A2]; · iexact A2
  isplitl [B2]; · iexact B2
  isplitl [C2]; · iexact C2
  isplitl [D2]; · iexact D2
  iexact E2

theorem ghost_tab (d : Dev nD) : (ghost d : sProp 𝕄) = iprop(barG d ∗ tab (rsG d) ∗ tab (agG d) ∗ sepL hops (axG d)) := rfl

theorem rs_tab (d : Dev nD) : iprop(tab (fun h j => atPos ER (kcell (d, cRS h j)) 0 ∅ 0) ∗ tab (fun h j => atPos ER (kcell (d, cRR h j)) 0 ∅ 0)
      ∗ tab (fun h j => dutyTok ER (kcell (d, cRS h j)) 0 false) ∗ tab (fun h j => dutyTok ER (kcell (dstN j d, cRR h j)) 0 false)
      ∗ tab (fun h j => credAt d (cRR h j))) ⊢ (tab (rsG d) : sProp 𝕄) := tab_zip _ _ _ _ _
theorem ag_tab (d : Dev nD) : iprop(tab (fun h j => atPos ER (kcell (d, cGS h j)) 0 ∅ 0) ∗ tab (fun h j => atPos ER (kcell (d, cGR h j)) 0 ∅ 0)
      ∗ tab (fun h j => dutyTok ER (kcell (d, cGS h j)) 0 false) ∗ tab (fun h j => dutyTok ER (kcell (dstN j d, cGR h j)) 0 false)
      ∗ tab (fun h j => credAt d (cGR h j))) ⊢ (tab (agG d) : sProp 𝕄) := tab_zip _ _ _ _ _
theorem ax_tab (d : Dev nD) : iprop((sepL hops fun k => atPos ER (kcell (d, cAS k)) 0 ∅ 0) ∗ (sepL hops fun k => atPos ER (kcell (d, cAR k)) 0 ∅ 0)
      ∗ (sepL hops fun k => dutyTok ER (kcell (d, cAS k)) 0 false) ∗ (sepL hops fun k => dutyTok ER (kcell (axDst k d, cAR k)) 0 false)
      ∗ (sepL hops fun k => credAt d (cAR k))) ⊢ (sepL hops (axG d) : sProp 𝕄) := by
  simp only [← sepL_sep]
  exact BI.Entails.refl _

/-- Positions, duties and credits are a device's ghost state. -/
theorem ghost_intro (d : Dev nD) :
    iprop((bigSep Finset.univ fun x : Cx => atPos ER (kcell (d, x)) 0 ∅ 0) ∗ (bigSep Finset.univ fun y : Option Cx => tokP (toE y d) y)
        ∗ Pipeline.launchCred (fun d => owed (due0 d)) d) ⊢ (ghost d : sProp 𝕄) := by
  rw [ghost_tab, pos_split, toks_split]
  iintro ⟨⟨PB, ⟨P0, P1, P2, P3⟩, PS, PR⟩, ⟨TR, TL, ⟨T0, T1, T2, T3⟩, TS, TQ⟩, HC⟩
  ihave HC := (creds d) $$ HC
  icases HC with ⟨CB, C1, C3, CR⟩
  isplitl [PB TR TL CB]
  · unfold barG
    isplitl [PB]; · iexact PB
    isplitl [TL]; · iexact TL
    isplitl [TR]; · iexact TR
    iexact CB
  isplitl [P0 P1 T0 T1 C1]
  · iapply (rs_tab d)
    isplitl [P0]; · iexact P0
    isplitl [P1]; · iexact P1
    isplitl [T0]; · iexact T0
    isplitl [T1]; · iexact T1
    iexact C1
  isplitl [P2 P3 T2 T3 C3]
  · iapply (ag_tab d)
    isplitl [P2]; · iexact P2
    isplitl [P3]; · iexact P3
    isplitl [T2]; · iexact T2
    isplitl [T3]; · iexact T3
    iexact C3
  iapply (ax_tab d)
  isplitl [PS]; · iexact PS
  isplitl [PR]; · iexact PR
  isplitl [TS]; · iexact TS
  isplitl [TQ]; · iexact TQ
  iexact CR

/-- At the end every cell of the device is at rest. -/
theorem rests_elim (d : Dev nD) : (rests d : sProp 𝕄) ⊢ iprop(off d cBar ∗ bigSep Finset.univ fun y : Cy => off d (some y)) := by
  rw [bigSep_cells]
  unfold rests axOff tab rsOff
  simp only [sepL_sep]
  iintro ⟨HB, ⟨⟨S0, R0⟩, ⟨S1, R1⟩, ⟨S2, R2⟩⟩, ⟨G0, G1, G2⟩, ⟨E0, E1, E2⟩, ⟨XS, XR⟩⟩
  isplitl [HB]; · iexact HB
  isplitr [XS XR]
  · isplitl [S0 S1 S2]
    · isplitl [S0]; · iexact S0
      isplitl [S1]; · iexact S1
      iexact S2
    isplitl [R0 R1 R2]
    · isplitl [R0]; · iexact R0
      isplitl [R1]; · iexact R1
      iexact R2
    isplitl [G0 G1 G2]
    · isplitl [G0]; · iexact G0
      isplitl [G1]; · iexact G1
      iexact G2
    isplitl [E0]; · iexact E0
    isplitl [E1]; · iexact E1
    iexact E2
  isplitl [XS]; · iexact XS
  iexact XR

end Cert.RingMM

end
-- ==== Proof.Launch.lean ====
/-
The launch: the kernel run on all four devices at once, from any memory, for any float values.
-/
module

public import proofs.«01_k».proof.Proof.Deal
public import proofs.«01_k».proof.Proof.Gen.KernelIdeal.Points
public import Idealize.ShloMosaic.Lib.Pipeline.CollectiveSegs
public import Idealize.ShloMosaic.Lib.Quiescent
public import proofs.«01_k».proof.Proof.Gen.KernelIdeal.Launch
public import Idealize.ShloMosaic.Lib.Pipeline.Launch
public import Idealize.ShloMosaic.Lib.Pipeline.Kit

@[expose] public section

noncomputable section

namespace Cert.RingMM

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
set_option quotPrecheck false in
local notation "ℙ" => Prog (TpuEff nD τ sig (Elt F) Λ₀ .tc)

variable (m : (ℓ : Loc nD τ sig) → Buf (Elt F) ℓ) (ρ : Dev nD → PrngReg)

/-! ## What the pipeline is given -/

/-- The two operands of a device, as its windows read them. -/
def xIn (d : Dev nD) : Vec F S4096x1024 .bf16 := (win0_0.blk (0 : Fin 1)).view.read (Elt F) (m (win0_0.arr.view.loc (d : Thread nD τ)))
def wIn (d : Dev nD) : Vec F S1024x8192 .bf16 := (win0_1.blk (0 : Fin 1)).view.read (Elt F) (m (win0_1.arr.view.loc (d : Thread nD τ)))

/-- The semaphores the kernel has for itself: the one of its local copies and those of the transfers. -/
def osem : Option Cy → SemLoc sig
  | none => .dma cpS
  | some y => semOf (some y)

theorem osem_inj : Function.Injective osem := by
  rintro (_ | y) (_ | y') h
  · rfl
  · exact absurd h.symm (semOf_ne_cp _)
  · exact absurd h (semOf_ne_cp _)
  · exact congrArg some (Option.some_injective _ (semOf_inj h))

theorem ownSemFacts : Pipeline.OwnSemFacts cfg0.spec osem :=
  ⟨by decide +kernel, osem_inj, by decide +kernel⟩

abbrev cpCell (d : Dev nD) : GSem nD τ sig := ((d : Thread nD τ), .dma cpS)

/-- What a device brings to the region, -/
def start (d : Dev nD) : sProp 𝕄 :=
  iprop(∃ K, ctx (xIn m) (wIn m) K ∗ ghost d ∗ semVal (cpCell d) 0 ∗ free d cM ∗ free d gM ∗ free d oM)
/-- has before the body, -/
def before (d : Dev nD) : sProp 𝕄 :=
  iprop(∃ K, ctx (xIn m) (wIn m) K ∗ ghost d ∗ semVal (cpCell d) 0 ∗ rooms d ∗ free d tM ∗ free d qM)
/-- and after it. -/
def after (d : Dev nD) : sProp 𝕄 :=
  iprop(free d sM ∗ free d tM ∗ free d qM ∗ free d aM ∗ has d oM fullShare (OUT (xIn m) (wIn m)) ∗ rests d ∗ semVal (cpCell d) 0)

/-- The data of the pipeline of device `c`. -/
def dats (_ : Fin 1) (c : Dev nD) : Pipeline.Dat τ (Elt F) Unit ℕ UU ℕ cfg0 c where
  A w := m ((cfg0.win w).arr.view.loc (c : Thread nD τ))
  after w _ := match w with
    | ⟨0, _⟩ => xIn m c
    | ⟨1, _⟩ => wIn m c
  Φ t := match t with
    | ⟨0, _⟩ => before m c
    | ⟨_ + 1, _⟩ => after m c
  q _ := fullShare
  owed t := match t with
    | ⟨0, _⟩ => owed (due0 c)
    | ⟨_ + 1, _⟩ => 0

theorem bigSep_W (Φ : Fin cfg0.W → sProp 𝕄) : bigSep Finset.univ Φ = iprop(Φ (0 : Fin 2) ∗ Φ (1 : Fin 2)) := bigSep_W0 Φ

theorem before_x (c : Dev nD) (v) : (dats m 0 c).before (0 : Fin 2) t0_0 v = xIn m c := by
  unfold Pipeline.Dat.before; rw [if_pos (fetch0_0 t0_0)]; rfl
theorem before_w (c : Dev nD) (v) : (dats m 0 c).before (1 : Fin 2) t0_0 v = wIn m c := by
  unfold Pipeline.Dat.before; rw [if_pos (fetch0_1 t0_0)]; rfl

set_option maxRecDepth 65536 in
set_option maxHeartbeats 2000000 in
/-- The body meets what the pipeline asks of it. -/
theorem body_obligation (c : Dev nD) : Pipeline.BodyObligation (dats m 0 c) (defs₀ (F := F)) 𝒱₀ () Set.univ := fun t => by
  rw [fin_N0 t, bigSep_W, bigSep_W]
  show iprop(before m c ∗ (dats m 0 c).owesAt () t0_0.castSucc
      ∗ (∃ v, has c xM fullShare ((dats m 0 c).before (0 : Fin 2) t0_0 v)) ∗ (∃ v, has c wM fullShare ((dats m 0 c).before (1 : Fin 2) t0_0 v)))
    ⊢ wp frame (wpE (defs₀ (F := F)) 𝒱₀ (c : Thread nD τ) none) Set.univ (body (F := F))
        (fun _ => iprop(after m c ∗ (dats m 0 c).owesAt () t0_0.succ ∗ has c xM fullShare (xIn m c) ∗ has c wM fullShare (wIn m c)))
  rw [body_eq]
  simp only [before_x, before_w, wp_deviceId]
  unfold before Pipeline.Dat.owesAt Pipeline.owesWithin
  rw [show (dats m 0 c).owed t0_0.castSucc = owed (due0 c) from rfl, show (dats m 0 c).owed t0_0.succ = 0 from rfl]
  iintro ⟨⟨%K, #Hc, Hg, Hcp, Hr, Ht, Hq⟩, ⟨%Wt, -, HO⟩, ⟨%_, Hx⟩, ⟨%_, Hw⟩⟩
  have h := prog_sound (d := c) (xIn m) (wIn m) K (fun _ => iprop(after m c ∗ (∃ Wt : Waits sig Unit, ⌜(↑Wt : Set (SemLoc sig × Unit)) ⊆ (dats m 0 c).bound () t0_0.succ⌝ ∗ owes (c : Thread nD τ) 0 Wt) ∗ has c xM fullShare (xIn m c) ∗ has c wM fullShare (wIn m c)))
  unfold wpd at h
  iapply h $$ [Hg Hcp Hr Ht Hq HO Hx Hw]
  · unfold core run
    isplitr; · iexact Hc
    isplitl [Hcp Ht Hq HO Hx Hw]
    · isplitl [Hx]; · iexact Hx
      isplitl [Hw]; · iexact Hw
      isplitl [Ht]; · iexact Ht
      isplitl [Hq]; · iexact Hq
      isplitl [Hcp]; · iexact Hcp
      iexists Wt; iexact HO
    isplitl [Hr]; · iexact Hr
    iexact Hg
  unfold done core run after
  iintro ⟨⟨Hx, Hw, Ht, Hq, Hcp, ⟨%Wt', HO⟩⟩, Hs, Ha, Ho, Hz⟩
  isplitl [Hs Ht Hq Ha Ho Hz Hcp]
  · isplitl [Hs]; · iexact Hs
    isplitl [Ht]; · iexact Ht
    isplitl [Hq]; · iexact Hq
    isplitl [Ha]; · iexact Ha
    isplitl [Ho]; · iexact Ho
    isplitl [Hz]; · iexact Hz
    iexact Hcp
  isplitl [HO]
  · iexists Wt'
    isplitr; · ipureintro; exact fun _ _ => Or.inl trivial
    rw [owed_nil]
    iexact HO
  isplitl [Hx]; · iexact Hx
  iexact Hw

/-! ## The ghost state of the launch -/

def ringCells : Finset (GSem nD τ sig) := Finset.univ.map ⟨kcell, kcell_inj⟩
def ringToks : Finset (GSem nD τ sig × ℕ × Bool) := Finset.univ.map ⟨fun p : Dev nD × Option Cx => tokAt p.1 p.2, tokAt_inj⟩

def u₀ : UU :=
  (initOf (Pipeline.cells cfgs cellOf_inj) (Pipeline.launchToks cfgs cellOf_inj), (initOf ringCells ringToks, (1 : Counters)))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- What the launch deals a device: the state, the place and the duties of each of its cells. -/
def G (c : Dev nD) : sProp 𝕄 :=
  iprop((bigSep Finset.univ fun x : Cx => roundState ER (ringRd (xIn m) (wIn m)) (kcell (c, x)) 0)
    ∗ (bigSep Finset.univ fun x : Cx => reached ER (kcell (c, x)) 0)
    ∗ (bigSep Finset.univ fun x : Cx => atPos ER (kcell (c, x)) 0 ∅ 0)
    ∗ bigSep Finset.univ fun y : Option Cx => tokP c y)

/-- What a device has once the cells are shared: the cells of all, and its own places and the duties it has to meet. -/
def G' (c : Dev nD) : sProp 𝕄 :=
  iprop(∃ K, records (xIn m) (wIn m) K ∗ semVal (cpCell c) 0 ∗ (bigSep Finset.univ fun x : Cx => atPos ER (kcell (c, x)) 0 ∅ 0)
    ∗ bigSep Finset.univ fun y : Option Cx => tokP (toE y c) y)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : Cx => Φ (kcell (c, x)) := by
    unfold ringCells; rw [bigSep_map, bigSep_univ_prod]; rfl
  have hT : bigSep ringToks (fun t => (dutyTok ER t.1 t.2.1 t.2.2 : sProp 𝕄)) = bigSep Finset.univ fun c : Dev nD => bigSep Finset.univ fun y : Option Cx => tokP c y := by
    unfold ringToks; rw [bigSep_map, bigSep_univ_prod]; rfl
  iintro HX
  imod (Rounds.fund ER (ringRd (xIn m) (wIn m)) ringCells ringToks) $$ HX with ⟨Hst, Hr, Hat, Htok⟩
  imodintro
  ihave Hst' := (Entails.of_eq (hX fun g => roundState ER (ringRd (xIn m) (wIn m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem ownSems0_eq (c : Dev nD) : (Pipeline.ownSems0 (Ix := Unit) (Name := ℕ) (U := UU) (Lvl := ℕ) (Val := Elt F) (τ := τ) osem c : sProp 𝕄)
    = iprop(semVal (cpCell c) 0 ∗ bigSep Finset.univ fun y : Cy => off c (some y)) := by
  unfold Pipeline.ownSems0
  rw [bigSep_opt]
  rfl
theorem unscopedSems0_eq (c : Dev nD) : (unscopedSems0 c : sProp 𝕄) = off c cBar := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop(semVal (cpCell c) 0 ∗ bigSep Finset.univ fun x : Cx => semVal (kcell (c, x)) 0) : sProp 𝕄) := by
  have h : (bigSep Finset.univ fun x : Cx => semVal (kcell (c, x)) 0 : sProp 𝕄) = iprop(off c cBar ∗ bigSep Finset.univ fun y : Cy => off c (some y)) := bigSep_opt _
  rw [ownSems0_eq, unscopedSems0_eq, h]
  iintro ⟨⟨HS, HV⟩, HB⟩
  isplitl [HS]; · iexact HS
  isplitl [HB] <;> iassumption

/-- A device sets up its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cx => iprop((∃ κ : ℕ, cellInv ER (ringRd (xIn m) (wIn m)) κ (kcell (c, x)))))
          ∗ (bigSep Finset.univ fun x : Cx => reached ER (kcell (c, x)) 0)
          ∗ (semVal (cpCell c) 0 ∗ bigSep Finset.univ fun x : Cx => atPos ER (kcell (c, x)) 0 ∅ 0)
          ∗ bigSep Finset.univ fun y : Option Cx => tokP c y) := by
  unfold G
  iintro ⟨Hos, Hus, Hst, Hr, Hat, Htok⟩
  ihave Hv := (sems0_eq (F := F) c) $$ [Hos Hus]
  · isplitl [Hos] <;> iassumption
  icases Hv with ⟨Hcp, Hv⟩
  imod (show iprop((bigSep Finset.univ fun x : Cx => semVal (kcell (c, x)) 0) ∗ bigSep Finset.univ fun x : Cx => roundState ER (ringRd (xIn m) (wIn m)) (kcell (c, x)) 0)
      ⊢ (|={Set.univ}=> bigSep Finset.univ fun x : Cx => iprop(∃ κ : ℕ, cellInv ER (ringRd (xIn m) (wIn m)) κ (kcell (c, x))) : sProp 𝕄) from by
        rw [← bigSep_sep']
        exact (bigSep_mono fun x _ => (Rounds.body_intro ER (ringRd (xIn m) (wIn m)) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat Hcp]
  · isplitl [Hcp] <;> iassumption
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells of all devices become known to all, and the duties go to those who have to meet them. -/
theorem regroup :
    (bigSep Finset.univ fun c : Dev nD => iprop((bigSep Finset.univ fun x : Cx => iprop((∃ κ : ℕ, cellInv ER (ringRd (xIn m) (wIn m)) κ (kcell (c, x)))))
          ∗ (bigSep Finset.univ fun x : Cx => reached ER (kcell (c, x)) 0)
          ∗ (semVal (cpCell c) 0 ∗ bigSep Finset.univ fun x : Cx => atPos ER (kcell (c, x)) 0 ∅ 0)
          ∗ bigSep Finset.univ fun y : Option Cx => tokP c y) : sProp 𝕄)
      ⊢ bigSep Finset.univ (G' m) := by
  rw [bigSep_sep', bigSep_sep', bigSep_sep' Finset.univ _ (fun c : Dev nD => bigSep Finset.univ fun y : Option Cx => tokP c y), ← bigSep_univ_prod (fun p : Dev nD × Cx => iprop(∃ κ : ℕ, cellInv ER (ringRd (xIn m) (wIn m)) κ (kcell p))),
    ← bigSep_univ_prod (fun p : Dev nD × Cx => (reached ER (kcell p) 0 : sProp 𝕄)), toks_deal]
  iintro ⟨HI, #HR, Hat, Htok⟩
  haveI : DecidableEq (Dev nD × Cx) := Classical.decEq _
  ihave HK := (BI.bigSep_exists_pi Finset.univ (fun (p : Dev nD × Cx) (κ : ℕ) => (cellInv ER (ringRd (xIn m) (wIn m)) κ (kcell p) : sProp 𝕄))) $$ HI
  icases HK with ⟨%K, #HI⟩
  iapply (bigSep_with_persistent (R := records (xIn m) (wIn m) K)
    (Φ := fun c => iprop((semVal (cpCell c) 0 ∗ bigSep Finset.univ fun x : Cx => atPos ER (kcell (c, x)) 0 ∅ 0) ∗ bigSep Finset.univ fun y : Option Cx => tokP (toE y c) y))
    (Ψ := G' m) fun c _ => by
      unfold G'
      iintro ⟨#H, ⟨Hs, Ha⟩, Ht⟩
      iexists K
      isplitr; · iexact H
      isplitl [Hs]; · iexact Hs
      isplitl [Ha] <;> iassumption)
  isplitr
  · unfold records
    rw [bigSep_sep']
    isplitl; · iexact HI
    iexact HR
  iapply (Entails.of_eq (bigSep_sep' (Finset.univ : Finset (Dev nD))
    (fun c => iprop(semVal (cpCell c) 0 ∗ bigSep Finset.univ fun x : Cx => atPos ER (kcell (c, x)) 0 ∅ 0)) (fun c => bigSep Finset.univ fun y : Option Cx => tokP (toE y c) y)).symm)
  isplitl [Hat]
  · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the region and out of it -/

/-- A whole buffer is held when its cells are. -/
theorem free_whole (c : Dev nD) (b : Ref sig .tc) :
    (∃ f : Buf (Elt F) (((c : Dev nD) : Thread nD τ).loc b), (((c : Thread nD τ).loc b) ↦{fullShare} f)) ⊢ (free c (Memref.whole b) : sProp 𝕄) := by
  unfold free ownsSat
  simp only [Memref.view_whole, View.read_whole, View.set_whole]
  iintro ⟨%f, H⟩
  iexists f
  isplitr; · (ipureintro; trivial)
  iexact H
theorem whole_free (c : Dev nD) (b : Ref sig .tc) :
    (free c (Memref.whole b) : sProp 𝕄) ⊢ (∃ f : Buf (Elt F) (((c : Dev nD) : Thread nD τ).loc b), (((c : Thread nD τ).loc b) ↦{fullShare} f)) := by
  unfold free ownsSat
  simp only [Memref.view_whole, View.read_whole, View.set_whole]
  iintro ⟨%f, -, H⟩
  iexists f
  iexact H
theorem whole_has (c : Dev nD) (b : Ref sig .tc) (V : b.ty.Contents (Elt F)) :
    (has c (Memref.whole b) fullShare V : sProp 𝕄) ⊢ (∃ f : Buf (Elt F) (((c : Dev nD) : Thread nD τ).loc b), ⌜f = V⌝ ∗ (((c : Thread nD τ).loc b) ↦{fullShare} f)) := by
  unfold has owns
  simp only [Memref.view_whole, View.read_whole, View.set_whole]
  exact BI.Entails.refl _

theorem start_intro (c : Dev nD) :
    iprop(Pipeline.unscopedRestP Pipeline.Prefetch.none cfg0.spec c (fun b => m ((c : Thread nD τ).loc b)) ∗ levAts L lv
        ∗ Pipeline.launchCred (fun d => owed (due0 d)) c ∗ prngReg c (ρ c) ∗ G' m c)
      ⊢ |={Set.univ}=> iprop(start m c ∗ emp) := by
  rw [Pipeline.unscopedRestP_none, unscopedRest0_eq]
  unfold start G'
  iintro ⟨⟨Ho, Hcm, Hgm⟩, #Hlev, Hcr, -, ⟨%K, #HR, Hcp, Hat, Htk⟩⟩
  imodintro
  isplitl
  · iexists K
    isplitr
    · unfold ctx
      isplitr; · iexact HR
      iexact Hlev
    isplitl [Hat Htk Hcr]
    · iapply (ghost_intro c)
      isplitl [Hat]; · iexact Hat
      isplitl [Htk] <;> iassumption
    isplitl [Hcp]; · iexact Hcp
    isplitl [Hcm]
    · iapply (free_whole c main_v1_1); iexists _; iexact Hcm
    isplitl [Hgm]
    · iapply (free_whole c main_v1_2); iexists _; iexact Hgm
    iapply (free_whole c main_v1_0); iexists _; iexact Ho
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold start before rooms
  iintro ⟨⟨%K, #Hc, Hg, Hcp, Hcm, Hgm, Ho⟩, -, Hs, Ht, Hq, Ha⟩
  iexists K
  isplitr; · iexact Hc
  isplitl [Hg]; · iexact Hg
  isplitl [Hcp]; · iexact Hcp
  isplitl [Hs Ha Hcm Hgm Ho]
  · isplitl [Hs]; · iapply (free_whole c cc0_scratch0) $$ Hs
    isplitl [Ha]; · iapply (free_whole c cc0_scratch3) $$ Ha
    isplitl [Hcm]; · iexact Hcm
    isplitl [Hgm]; · iexact Hgm
    iexact Ho
  isplitl [Ht]; · iapply (free_whole c cc0_scratch1) $$ Ht
  iapply (free_whole c cc0_scratch2) $$ Hq

/-- What is read off at the end: the barrier at zero and the result. -/
def fin (c : Dev nD) : sProp 𝕄 := iprop(unscopedSems0 c ∗ has c oM fullShare (OUT (xIn m) (wIn m)))

theorem after_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = after m c from rfl, scopedRest0_eq, ownSems0_eq]
  unfold after fin
  rw [unscopedSems0_eq]
  iintro ⟨Hs, Ht, Hq, Ha, Ho, Hz, Hcp⟩
  ihave Hz := (rests_elim c) $$ Hz
  icases Hz with ⟨Hb, Hz⟩
  isplitl [Hb Ho]
  · isplitl [Hb] <;> iassumption
  isplitl [Hcp Hz]
  · isplitl [Hcp] <;> iassumption
  isplitl [Hs]; · iapply (whole_free c cc0_scratch0) $$ Hs
  isplitl [Ht]; · iapply (whole_free c cc0_scratch1) $$ Ht
  isplitl [Hq]; · iapply (whole_free c cc0_scratch2) $$ Hq
  iapply (whole_free c cc0_scratch3) $$ Ha

theorem above0 (d : Dev nD) : Above 0 (due0 d) := by
  intro p hp
  unfold due0 at hp
  rcases List.mem_cons.mp hp with rfl | hp
  · exact Nat.zero_lt_one
  rcases List.mem_cons.mp hp with rfl | hp
  · exact Nat.zero_lt_one
  exact above1 d (by decide) p hp

theorem waits (c : Dev nD) : (levAts L lv : sProp 𝕄) ⊢ Pipeline.cellsWaits cfgs (dats m) () 0 c :=
  Pipeline.cellsWaits_intro cfgs (dats m) () 0 c fun w s t => by
    have hsm : ∀ (w : Fin 2) (s : Fin (cfg0.win w).nbuf) (x : Cx), semOf x ≠ .dma ((cfg0.win w).sem s) := by decide +kernel
    rcases t with ⟨_ | _, ht⟩
    · exact mayWait_owed c _ 0 (lv_other c _ (hsm w s) ()).le (due0 c) (above0 c)
    · exact mayWait_owed c _ 0 (lv_other c _ (hsm w s) ()).le [] (Above.nil 0)

theorem share_eq (c : Dev nD) (w : Fin cfg0.W) : (dats m 0 c).share w = fullShare := by unfold Pipeline.Dat.share; split <;> rfl

theorem fin_read (c : Dev nD) (s' : Phys nD τ sig (Elt F)) :
    iprop(fin m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_v1_0) = OUT (xIn m) (wIn m)⌝ ∗ (SI s' : sProp 𝕄)) := by
  unfold fin
  iintro ⟨⟨Hu, Ho⟩, -, HSI⟩
  ihave Ho := (whole_has c main_v1_0 _) $$ Ho
  icases Ho with ⟨%f, %hf, Ho⟩
  icombine HSI Ho gives %h
  imod (Pipeline.unscopedSems0_read (X := unscopedSems0 c) (c := c) fupd_intro s') $$ [Hu HSI] with ⟨%hu, HSI⟩
  · isplitl [Hu] <;> iassumption
  imodintro
  isplitr
  · ipureintro
    exact ⟨hu, (Buf.eq_of_forall_mem_univ h).trans hf⟩
  iexact HSI

/-! ## The run -/

set_option maxRecDepth 65536 in
/-- From any memory with zero counters every execution of the program on the four devices ends with the same
    result on all of them, `OUT` of the operands, the operands as they were and every counter at zero. -/
theorem run_main : θ_run defs (onTc (τ := τ) (main (F := F))) ⟨m, fun _ => 0, ρ⟩ (fun r =>
    (∀ c : Dev nD, r.2.mem ((c : Thread nD τ).loc main_v1_0) = OUT (xIn m) (wIn m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed (due0 d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := before_intro m) (hout := after_exit m)
    (QY := fun c s => (∀ sm : SemLoc sig, sm.isScoped .tc = false → s.sem ((c.tc : Thread nD τ), sm) = 0)
      ∧ s.mem ((c : Thread nD τ).loc main_v1_0) = OUT (xIn m) (wIn m))
    (hY := fin_read m)
    (hQ := fun _ h hs => ⟨fun c => ⟨(h c).2.2.2, ((h c).1 (0 : Fin 2)).trans ((dats m 0 c).arrAt_in (0 : Fin 2) rfl _),
      ((h c).1 (1 : Fin 2)).trans ((dats m 0 c).arrAt_in (1 : Fin 2) rfl _)⟩, sem_eq_zero hs fun c => (h c).2.2.1⟩)

end Cert.RingMM

end
-- ==== Proof.lean ====
/-
The proof of `Cert.Claim`: the three frames, that the ideal kernel is the kernel over the extended
reals, and that its result is the reference's. The run of the ring is in Proof/Launch.lean, its values
in Proof/Sums.lean and Proof/Top.lean, the reference's in Proof/Ref.lean; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ref
public import proofs.«01_k».proof.Proof.Launch
public import Idealize.ShloMosaic.Adequacy
public import Idealize.ShloMosaic.Init

@[expose] public section

noncomputable section

namespace Cert.Proof

open Idealize.ShloMosaic Idealize.SL.Sem Cert.Kernel

/-- The run of `Launch`, for any float values: the operands end as they were, every counter at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.RingMM.run_main m g)

set_option maxRecDepth 65536
set_option maxHeartbeats 0

/-- The kernel on bits and the kernel on extended reals have one body. -/
theorem body_same : @Cert.Kernel.cc0_body Bits _ _ = @Cert.KernelIdeal.cc0_body Bits _ _ := rfl

/-- So they have the same functions, -/
theorem funcs_same : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ =>
    refine funext fun p => ?_
    obtain ⟨t, s⟩ := p
    dsimp only
    rw [body_same]

/-- and the same pipelines over them. -/
theorem defs_same : Cert.Kernel.defs (F := Bits) = Cert.KernelIdeal.defs (F := Bits) :=
  congrArg (fun D => Pipeline.defs Cert.KernelIdeal.pcfgs D) funcs_same

/-- The kernel on bits. -/
theorem frame_kernel : Cert.quiescent_Kernel := fun m ρ _ =>
  (congrArg (fun D => θ_run D (onTc (τ := Cert.Kernel.τ) (Cert.Kernel.main (F := Bits))) ⟨m, fun _ => 0, ρ⟩ _) defs_same).mpr (frame_any (F := Bits) m ρ)

/-- The kernel on extended reals. -/
theorem frame_ideal : Cert.quiescent_KernelIdeal := fun m ρ _ => frame_any (F := Ideal) m ρ

/-- The reference. -/
theorem frame_reference : Cert.quiescent_ReferenceIdeal := fun m ρ _ => Cert.ReferenceIdeal.Gen.frame m ρ

/-- A device's operands, as the kernel's windows read them, are its argument buffers. -/
theorem xIn_eq (m : (ℓ : Loc Cert.KernelIdeal.nD Cert.KernelIdeal.τ Cert.KernelIdeal.sig) → Buf (Elt Ideal) ℓ) (c : Dev Cert.KernelIdeal.nD) :
    Cert.RingMM.xIn m c = m ((c.tc : Thread Cert.KernelIdeal.nD Cert.KernelIdeal.τ).loc Cert.KernelIdeal.main_arg0) := by
  funext i
  refine congrArg (m ((c.tc : Thread Cert.KernelIdeal.nD Cert.KernelIdeal.τ).loc Cert.KernelIdeal.main_arg0)) (funext fun a => Fin.ext ?_)
  match a with
  | ⟨0, _⟩ => show 0 * _ + 1 * (i 0).val = (i 0).val; omega
  | ⟨1, _⟩ => show 0 * _ + 1 * (i 1).val = (i 1).val; omega
theorem wIn_eq (m : (ℓ : Loc Cert.KernelIdeal.nD Cert.KernelIdeal.τ Cert.KernelIdeal.sig) → Buf (Elt Ideal) ℓ) (c : Dev Cert.KernelIdeal.nD) :
    Cert.RingMM.wIn m c = m ((c.tc : Thread Cert.KernelIdeal.nD Cert.KernelIdeal.τ).loc Cert.KernelIdeal.main_arg1) := by
  funext i
  refine congrArg (m ((c.tc : Thread Cert.KernelIdeal.nD Cert.KernelIdeal.τ).loc Cert.KernelIdeal.main_arg1)) (funext fun a => Fin.ext ?_)
  match a with
  | ⟨0, _⟩ => show 0 * _ + 1 * (i 0).val = (i 0).val; omega
  | ⟨1, _⟩ => show 0 * _ + 1 * (i 1).val = (i 1).val; omega

/-- Ring and reference leave the same array. -/
theorem same_result (m' : (ℓ : Loc Cert.ReferenceIdeal.nD Cert.ReferenceIdeal.τ Cert.ReferenceIdeal.sig) → Buf (Elt Ideal) ℓ) (c : Dev Cert.ReferenceIdeal.nD) :
    (Cert.ReferenceIdeal.Gen.dats m' 0 c).arrAt 2 Cert.ReferenceIdeal.cfg0.N
      = Cert.RingMM.OUT
          (Cert.RingMM.Xd (m' ((c.tc : Thread Cert.ReferenceIdeal.nD Cert.ReferenceIdeal.τ).loc Cert.ReferenceIdeal.main_arg0)))
          (Cert.RingMM.Wd (m' ((c.tc : Thread Cert.ReferenceIdeal.nD Cert.ReferenceIdeal.τ).loc Cert.ReferenceIdeal.main_arg1))) := by
  funext i
  obtain ⟨r, k, rfl⟩ : ∃ (r : Fin 4096) (k : Fin 8192), i = ValueIdx.ix2 r k := ⟨i 0, i 1, ValueIdx.eq_ix2 i⟩
  rw [Cert.RefMM.res_eq, Cert.RefMM.V_prod, Cert.RefMM.V_scale]
  exact (Cert.RefMM.E2_apply _ _ r k).trans (Cert.RingMM.OUT_apply _ _ r k).symm

/-- The kernel's result is the reference's. -/
theorem algebraic : Cert.algebraic_KernelIdeal_ReferenceIdeal := by
  intro m g m' g' _ h
  have hx : Cert.RingMM.xIn m = Cert.RingMM.Xd _ := funext fun c => (xIn_eq m c).trans (h c).1
  have hw : Cert.RingMM.wIn m = Cert.RingMM.Wd _ := funext fun c => (wIn_eq m c).trans (h c).2
  refine ⟨Cert.RingMM.OUT (Cert.RingMM.xIn m) (Cert.RingMM.wIn m),
    (θ_run Cert.KernelIdeal.defs _ _).mono (fun _ h => h.1) (Cert.RingMM.run_main m g), ?_⟩
  refine (θ_run Cert.ReferenceIdeal.defs _ _).mono (fun _ h => ⟨(h 0).1.trans ?_, (h 0).2⟩) (Cert.ReferenceIdeal.Value.run_blocks m' g')
  rw [hx, hw]
  exact same_result m' 0

theorem claim : Cert.Claim := ⟨Cert.Kernel.Gen.facts, Cert.KernelIdeal.Gen.facts, Cert.ReferenceIdeal.Gen.facts, frame_kernel, frame_ideal, frame_reference, trivial, algebraic⟩

end Cert.Proof

end
